-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v287) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S64x384x196 : Shape := ⟨3, ![64, 384, 196]⟩
abbrev S4x1536 : Shape := ⟨2, ![4, 1536]⟩
abbrev S4 : Shape := ⟨1, ![4]⟩
abbrev S_ : Shape := ⟨0, ![]⟩

class Facts : Prop where
  bcast_S_S64x384x196 : S_.BroadcastsInDim S64x384x196 (![] : Fin 0 → Fin S64x384x196.rank)
  reducesTo_S64x384x196_S_d0_1_2 : S64x384x196.ReducesTo [0, 1, 2] S_
  h_S_ : 0 < S_.numel

variable [Facts]

def fn {F : FTy → Type} [FloatOps F] (main_arg0 : FVec F S64x384x196 .f32) (main_arg1 : FVec F S4x1536 .f32) (main_arg2 : FVec F S4 .f32) (main_arg3 : FVec F S_ .f32) : IVec S_ 1 :=
  let main_cst : FVec F S_ .f32 := constant S_ .f32 0x00000000#32
  let main_v0 : FVec F S64x384x196 .f32 := broadcastInDim S64x384x196 ![] bcast_S_S64x384x196 main_cst
  let main_v1 : IVec S64x384x196 1 := cmpf .oge main_arg0 main_v0
  let main_c : IVec S_ 1 := constantI S_ 1 1#1
  let main_v2 : IVec S_ 1 := (fun x v => Host.reduce IntOp.andi x v reducesTo_S64x384x196_S_d0_1_2 h_S_) main_v1 main_c
  let main_cst_0 : FVec F S_ .f32 := constant S_ .f32 0x00000000#32
  let main_v3 : IVec S_ 1 := cmpf .oeq main_arg3 main_cst_0
  let main_v4 : IVec S_ 1 := andi main_v2 main_v3
  main_v4
-- ==== Kernel.lean ====
abbrev S64x384x196 : Shape := ⟨3, ![64, 384, 196]⟩
abbrev S4x1536 : Shape := ⟨2, ![4, 1536]⟩
abbrev S4 : Shape := ⟨1, ![4]⟩
abbrev S_ : Shape := ⟨0, ![]⟩
abbrev S16x1536x196 : Shape := ⟨3, ![16, 1536, 196]⟩
abbrev S4x16x196 : Shape := ⟨3, ![4, 16, 196]⟩
abbrev S16x4x196 : Shape := ⟨3, ![16, 4, 196]⟩
abbrev S1x4x1 : Shape := ⟨3, ![1, 4, 1]⟩
abbrev S16x196 : Shape := ⟨2, ![16, 196]⟩
abbrev S16x1x196 : Shape := ⟨3, ![16, 1, 196]⟩
abbrev S196x64x384 : Shape := ⟨3, ![196, 64, 384]⟩
abbrev S8x4x196 : Shape := ⟨3, ![8, 4, 196]⟩
abbrev S196x8x384 : Shape := ⟨3, ![196, 8, 384]⟩
abbrev S8x1x196 : Shape := ⟨3, ![8, 1, 196]⟩
abbrev S8x196 : Shape := ⟨2, ![8, 196]⟩
abbrev S196x8 : Shape := ⟨2, ![196, 8]⟩
abbrev S196x8x1 : Shape := ⟨3, ![196, 8, 1]⟩

abbrev nBuf : Space → Nat
  | .hbm => 27
  | .vmem => 8
  | .smem => 0
  | _ => 0

abbrev bufTy : (tb : Table) → Fin (tcTables nBuf tb) → BufTy
  | .hbm, ⟨0, _⟩ => ⟨S64x384x196, .f32⟩
  | .hbm, ⟨1, _⟩ => ⟨S4x1536, .f32⟩
  | .hbm, ⟨2, _⟩ => ⟨S4, .f32⟩
  | .hbm, ⟨3, _⟩ => ⟨S_, .f32⟩
  | .hbm, ⟨4, _⟩ => ⟨S16x1536x196, .f32⟩
  | .hbm, ⟨5, _⟩ => ⟨S4x16x196, .f32⟩
  | .hbm, ⟨6, _⟩ => ⟨S16x4x196, .f32⟩
  | .hbm, ⟨7, _⟩ => ⟨S1x4x1, .f32⟩
  | .hbm, ⟨8, _⟩ => ⟨S16x4x196, .f32⟩
  | .hbm, ⟨9, _⟩ => ⟨S16x4x196, .f32⟩
  | .hbm, ⟨10, _⟩ => ⟨S_, .f32⟩
  | .hbm, ⟨11, _⟩ => ⟨S16x196, .f32⟩
  | .hbm, ⟨12, _⟩ => ⟨S_, .f32⟩
  | .hbm, ⟨13, _⟩ => ⟨S16x196, .f32⟩
  | .hbm, ⟨14, _⟩ => ⟨S16x196, .f32⟩
  | .hbm, ⟨15, _⟩ => ⟨S16x1x196, .f32⟩
  | .hbm, ⟨16, _⟩ => ⟨S16x4x196, .f32⟩
  | .hbm, ⟨17, _⟩ => ⟨S16x4x196, .f32⟩
  | .hbm, ⟨18, _⟩ => ⟨S16x4x196, .f32⟩
  | .hbm, ⟨19, _⟩ => ⟨S_, .f32⟩
  | .hbm, ⟨20, _⟩ => ⟨S16x196, .f32⟩
  | .hbm, ⟨21, _⟩ => ⟨S16x1x196, .f32⟩
  | .hbm, ⟨22, _⟩ => ⟨S16x4x196, .f32⟩
  | .hbm, ⟨23, _⟩ => ⟨S16x4x196, .f32⟩
  | .hbm, ⟨24, _⟩ => ⟨S196x64x384, .f32⟩
  | .hbm, ⟨25, _⟩ => ⟨S196x64x384, .f32⟩
  | .hbm, ⟨26, _⟩ => ⟨S64x384x196, .f32⟩
  | .local _ .vmem, ⟨0, _⟩ => ⟨S8x4x196, .f32⟩
  | .local _ .vmem, ⟨1, _⟩ => ⟨S8x4x196, .f32⟩
  | .local _ .vmem, ⟨2, _⟩ => ⟨S196x8x384, .f32⟩
  | .local _ .vmem, ⟨3, _⟩ => ⟨S196x8x384, .f32⟩
  | .local _ .vmem, ⟨4, _⟩ => ⟨S196x8x384, .f32⟩
  | .local _ .vmem, ⟨5, _⟩ => ⟨S196x8x384, .f32⟩
  | .local _ .vmem, ⟨6, _⟩ => ⟨S196x8x384, .f32⟩
  | .local _ .vmem, ⟨7, _⟩ => ⟨S196x8x384, .f32⟩
  | _, _ => ⟨S64x384x196, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x4x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S196x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S196x8x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S64x384x196 : Shape := ⟨3, ![64, 384, 196]⟩
abbrev S4x1536 : Shape := ⟨2, ![4, 1536]⟩
abbrev S4 : Shape := ⟨1, ![4]⟩
abbrev S_ : Shape := ⟨0, ![]⟩
abbrev S16x1536x196 : Shape := ⟨3, ![16, 1536, 196]⟩
abbrev S4x16x196 : Shape := ⟨3, ![4, 16, 196]⟩
abbrev S16x4x196 : Shape := ⟨3, ![16, 4, 196]⟩
abbrev S1x4x1 : Shape := ⟨3, ![1, 4, 1]⟩
abbrev S16x196 : Shape := ⟨2, ![16, 196]⟩
abbrev S16x1x196 : Shape := ⟨3, ![16, 1, 196]⟩
abbrev S1x16x4x196 : Shape := ⟨4, ![1, 16, 4, 196]⟩
abbrev S4x16x4x196 : Shape := ⟨4, ![4, 16, 4, 196]⟩
abbrev S4x16x384x196 : Shape := ⟨4, ![4, 16, 384, 196]⟩
abbrev S16x384x196 : Shape := ⟨3, ![16, 384, 196]⟩
abbrev S1x16x384x196 : Shape := ⟨4, ![1, 16, 384, 196]⟩
abbrev S4x16x1x384x196 : Shape := ⟨5, ![4, 16, 1, 384, 196]⟩
abbrev S4x16x4x384x196 : Shape := ⟨5, ![4, 16, 4, 384, 196]⟩
abbrev S4x16x4x1x196 : Shape := ⟨5, ![4, 16, 4, 1, 196]⟩

abbrev nBuf : Space → Nat
  | .hbm => 365
  | .vmem => 0
  | .smem => 0
  | _ => 0

abbrev hbmTy0_0 (i : Nat) : BufTy := match i % 128 with
  | 0 => ⟨S64x384x196, .f32⟩
  | 1 => ⟨S4x1536, .f32⟩
  | 2 => ⟨S4, .f32⟩
  | 3 => ⟨S_, .f32⟩
  | 4 => ⟨S16x1536x196, .f32⟩
  | 5 => ⟨S4x16x196, .f32⟩
  | 6 => ⟨S16x4x196, .f32⟩
  | 7 => ⟨S1x4x1, .f32⟩
  | 8 => ⟨S16x4x196, .f32⟩
  | 9 => ⟨S16x4x196, .f32⟩
  | 10 => ⟨S_, .f32⟩
  | 11 => ⟨S16x196, .f32⟩
  | 12 => ⟨S_, .f32⟩
  | 13 => ⟨S16x196, .f32⟩
  | 14 => ⟨S16x196, .f32⟩
  | 15 => ⟨S16x1x196, .f32⟩
  | 16 => ⟨S16x4x196, .f32⟩
  | 17 => ⟨S16x4x196, .f32⟩
  | 18 => ⟨S16x4x196, .f32⟩
  | 19 => ⟨S_, .f32⟩
  | 20 => ⟨S16x196, .f32⟩
  | 21 => ⟨S16x1x196, .f32⟩
  | 22 => ⟨S16x4x196, .f32⟩
  | 23 => ⟨S16x4x196, .f32⟩
  | 24 => ⟨S1x16x4x196, .f32⟩
  | 25 => ⟨S4x16x4x196, .f32⟩
  | 26 => ⟨S4x16x384x196, .f32⟩
  | 27 => ⟨S_, .f32⟩
  | 28 => ⟨S16x384x196, .f32⟩
  | 29 => ⟨S1x16x384x196, .f32⟩
  | 30 => ⟨S16x384x196, .f32⟩
  | 31 => ⟨S16x384x196, .f32⟩
  | 32 => ⟨S_, .f32⟩
  | 33 => ⟨S16x384x196, .f32⟩
  | 34 => ⟨S16x384x196, .f32⟩
  | 35 => ⟨S16x384x196, .f32⟩
  | 36 => ⟨S_, .f32⟩
  | 37 => ⟨S16x384x196, .f32⟩
  | 38 => ⟨S16x384x196, .i1⟩
  | 39 => ⟨S16x384x196, .f32⟩
  | 40 => ⟨S_, .f32⟩
  | 41 => ⟨S16x384x196, .f32⟩
  | 42 => ⟨S16x384x196, .f32⟩
  | 43 => ⟨S16x384x196, .f32⟩
  | 44 => ⟨S1x16x384x196, .f32⟩
  | 45 => ⟨S16x384x196, .f32⟩
  | 46 => ⟨S16x384x196, .f32⟩
  | 47 => ⟨S_, .f32⟩
  | 48 => ⟨S16x384x196, .f32⟩
  | 49 => ⟨S16x384x196, .f32⟩
  | 50 => ⟨S16x384x196, .f32⟩
  | 51 => ⟨S_, .f32⟩
  | 52 => ⟨S16x384x196, .f32⟩
  | 53 => ⟨S16x384x196, .i1⟩
  | 54 => ⟨S16x384x196, .f32⟩
  | 55 => ⟨S_, .f32⟩
  | 56 => ⟨S16x384x196, .f32⟩
  | 57 => ⟨S16x384x196, .f32⟩
  | 58 => ⟨S16x384x196, .f32⟩
  | 59 => ⟨S1x16x384x196, .f32⟩
  | 60 => ⟨S16x384x196, .f32⟩
  | 61 => ⟨S16x384x196, .f32⟩
  | 62 => ⟨S_, .f32⟩
  | 63 => ⟨S16x384x196, .f32⟩
  | 64 => ⟨S16x384x196, .f32⟩
  | 65 => ⟨S16x384x196, .f32⟩
  | 66 => ⟨S_, .f32⟩
  | 67 => ⟨S16x384x196, .f32⟩
  | 68 => ⟨S16x384x196, .i1⟩
  | 69 => ⟨S16x384x196, .f32⟩
  | 70 => ⟨S_, .f32⟩
  | 71 => ⟨S16x384x196, .f32⟩
  | 72 => ⟨S16x384x196, .f32⟩
  | 73 => ⟨S16x384x196, .f32⟩
  | 74 => ⟨S1x16x384x196, .f32⟩
  | 75 => ⟨S16x384x196, .f32⟩
  | 76 => ⟨S16x384x196, .f32⟩
  | 77 => ⟨S_, .f32⟩
  | 78 => ⟨S16x384x196, .f32⟩
  | 79 => ⟨S16x384x196, .f32⟩
  | 80 => ⟨S16x384x196, .f32⟩
  | 81 => ⟨S_, .f32⟩
  | 82 => ⟨S16x384x196, .f32⟩
  | 83 => ⟨S16x384x196, .i1⟩
  | 84 => ⟨S16x384x196, .f32⟩
  | 85 => ⟨S_, .f32⟩
  | 86 => ⟨S16x384x196, .f32⟩
  | 87 => ⟨S16x384x196, .f32⟩
  | 88 => ⟨S16x384x196, .f32⟩
  | 89 => ⟨S1x16x384x196, .f32⟩
  | 90 => ⟨S1x16x384x196, .f32⟩
  | 91 => ⟨S1x16x384x196, .f32⟩
  | 92 => ⟨S1x16x384x196, .f32⟩
  | 93 => ⟨S4x16x384x196, .f32⟩
  | 94 => ⟨S_, .f32⟩
  | 95 => ⟨S16x384x196, .f32⟩
  | 96 => ⟨S1x16x384x196, .f32⟩
  | 97 => ⟨S16x384x196, .f32⟩
  | 98 => ⟨S_, .f32⟩
  | 99 => ⟨S16x384x196, .f32⟩
  | 100 => ⟨S16x384x196, .f32⟩
  | 101 => ⟨S_, .f32⟩
  | 102 => ⟨S16x384x196, .f32⟩
  | 103 => ⟨S16x384x196, .f32⟩
  | 104 => ⟨S16x384x196, .f32⟩
  | 105 => ⟨S_, .f32⟩
  | 106 => ⟨S16x384x196, .f32⟩
  | 107 => ⟨S16x384x196, .f32⟩
  | 108 => ⟨S16x384x196, .f32⟩
  | 109 => ⟨S16x384x196, .f32⟩
  | 110 => ⟨S_, .f32⟩
  | 111 => ⟨S16x384x196, .f32⟩
  | 112 => ⟨S16x384x196, .f32⟩
  | 113 => ⟨S16x384x196, .f32⟩
  | 114 => ⟨S_, .f32⟩
  | 115 => ⟨S16x384x196, .f32⟩
  | 116 => ⟨S16x384x196, .i1⟩
  | 117 => ⟨S16x384x196, .f32⟩
  | 118 => ⟨S_, .f32⟩
  | 119 => ⟨S16x384x196, .f32⟩
  | 120 => ⟨S16x384x196, .f32⟩
  | 121 => ⟨S16x384x196, .f32⟩
  | 122 => ⟨S1x16x384x196, .f32⟩
  | 123 => ⟨S16x384x196, .f32⟩
  | 124 => ⟨S_, .f32⟩
  | 125 => ⟨S16x384x196, .f32⟩
  | 126 => ⟨S16x384x196, .f32⟩
  | 127 => ⟨S_, .f32⟩
  | _ => ⟨S64x384x196, .f32⟩

abbrev hbmTy0_1 (i : Nat) : BufTy := match i % 128 with
  | 0 => ⟨S16x384x196, .f32⟩
  | 1 => ⟨S16x384x196, .f32⟩
  | 2 => ⟨S16x384x196, .f32⟩
  | 3 => ⟨S_, .f32⟩
  | 4 => ⟨S16x384x196, .f32⟩
  | 5 => ⟨S16x384x196, .f32⟩
  | 6 => ⟨S16x384x196, .f32⟩
  | 7 => ⟨S16x384x196, .f32⟩
  | 8 => ⟨S_, .f32⟩
  | 9 => ⟨S16x384x196, .f32⟩
  | 10 => ⟨S16x384x196, .f32⟩
  | 11 => ⟨S16x384x196, .f32⟩
  | 12 => ⟨S_, .f32⟩
  | 13 => ⟨S16x384x196, .f32⟩
  | 14 => ⟨S16x384x196, .i1⟩
  | 15 => ⟨S16x384x196, .f32⟩
  | 16 => ⟨S_, .f32⟩
  | 17 => ⟨S16x384x196, .f32⟩
  | 18 => ⟨S16x384x196, .f32⟩
  | 19 => ⟨S16x384x196, .f32⟩
  | 20 => ⟨S1x16x384x196, .f32⟩
  | 21 => ⟨S16x384x196, .f32⟩
  | 22 => ⟨S_, .f32⟩
  | 23 => ⟨S16x384x196, .f32⟩
  | 24 => ⟨S16x384x196, .f32⟩
  | 25 => ⟨S_, .f32⟩
  | 26 => ⟨S16x384x196, .f32⟩
  | 27 => ⟨S16x384x196, .f32⟩
  | 28 => ⟨S16x384x196, .f32⟩
  | 29 => ⟨S_, .f32⟩
  | 30 => ⟨S16x384x196, .f32⟩
  | 31 => ⟨S16x384x196, .f32⟩
  | 32 => ⟨S16x384x196, .f32⟩
  | 33 => ⟨S16x384x196, .f32⟩
  | 34 => ⟨S_, .f32⟩
  | 35 => ⟨S16x384x196, .f32⟩
  | 36 => ⟨S16x384x196, .f32⟩
  | 37 => ⟨S16x384x196, .f32⟩
  | 38 => ⟨S_, .f32⟩
  | 39 => ⟨S16x384x196, .f32⟩
  | 40 => ⟨S16x384x196, .i1⟩
  | 41 => ⟨S16x384x196, .f32⟩
  | 42 => ⟨S_, .f32⟩
  | 43 => ⟨S16x384x196, .f32⟩
  | 44 => ⟨S16x384x196, .f32⟩
  | 45 => ⟨S16x384x196, .f32⟩
  | 46 => ⟨S1x16x384x196, .f32⟩
  | 47 => ⟨S16x384x196, .f32⟩
  | 48 => ⟨S_, .f32⟩
  | 49 => ⟨S16x384x196, .f32⟩
  | 50 => ⟨S16x384x196, .f32⟩
  | 51 => ⟨S_, .f32⟩
  | 52 => ⟨S16x384x196, .f32⟩
  | 53 => ⟨S16x384x196, .f32⟩
  | 54 => ⟨S16x384x196, .f32⟩
  | 55 => ⟨S_, .f32⟩
  | 56 => ⟨S16x384x196, .f32⟩
  | 57 => ⟨S16x384x196, .f32⟩
  | 58 => ⟨S16x384x196, .f32⟩
  | 59 => ⟨S16x384x196, .f32⟩
  | 60 => ⟨S_, .f32⟩
  | 61 => ⟨S16x384x196, .f32⟩
  | 62 => ⟨S16x384x196, .f32⟩
  | 63 => ⟨S16x384x196, .f32⟩
  | 64 => ⟨S_, .f32⟩
  | 65 => ⟨S16x384x196, .f32⟩
  | 66 => ⟨S16x384x196, .i1⟩
  | 67 => ⟨S16x384x196, .f32⟩
  | 68 => ⟨S_, .f32⟩
  | 69 => ⟨S16x384x196, .f32⟩
  | 70 => ⟨S16x384x196, .f32⟩
  | 71 => ⟨S16x384x196, .f32⟩
  | 72 => ⟨S1x16x384x196, .f32⟩
  | 73 => ⟨S1x16x384x196, .f32⟩
  | 74 => ⟨S1x16x384x196, .f32⟩
  | 75 => ⟨S1x16x384x196, .f32⟩
  | 76 => ⟨S4x16x384x196, .f32⟩
  | 77 => ⟨S_, .f32⟩
  | 78 => ⟨S16x384x196, .f32⟩
  | 79 => ⟨S1x16x384x196, .f32⟩
  | 80 => ⟨S16x384x196, .f32⟩
  | 81 => ⟨S16x384x196, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S16x384x196, .f32⟩
  | 89 => ⟨S16x384x196, .f32⟩
  | 90 => ⟨S16x384x196, .f32⟩
  | 91 => ⟨S_, .f32⟩
  | 92 => ⟨S16x384x196, .f32⟩
  | 93 => ⟨S16x384x196, .i1⟩
  | 94 => ⟨S16x384x196, .f32⟩
  | 95 => ⟨S_, .f32⟩
  | 96 => ⟨S16x384x196, .f32⟩
  | 97 => ⟨S16x384x196, .f32⟩
  | 98 => ⟨S16x384x196, .f32⟩
  | 99 => ⟨S1x16x384x196, .f32⟩
  | 100 => ⟨S16x384x196, .f32⟩
  | 101 => ⟨S16x384x196, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S16x384x196, .f32⟩
  | 109 => ⟨S16x384x196, .f32⟩
  | 110 => ⟨S16x384x196, .f32⟩
  | 111 => ⟨S_, .f32⟩
  | 112 => ⟨S16x384x196, .f32⟩
  | 113 => ⟨S16x384x196, .i1⟩
  | 114 => ⟨S16x384x196, .f32⟩
  | 115 => ⟨S_, .f32⟩
  | 116 => ⟨S16x384x196, .f32⟩
  | 117 => ⟨S16x384x196, .f32⟩
  | 118 => ⟨S16x384x196, .f32⟩
  | 119 => ⟨S1x16x384x196, .f32⟩
  | 120 => ⟨S16x384x196, .f32⟩
  | 121 => ⟨S16x384x196, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S64x384x196, .f32⟩

abbrev hbmTy0_2 (i : Nat) : BufTy := match i % 128 with
  | 0 => ⟨S16x384x196, .f32⟩
  | 1 => ⟨S16x384x196, .f32⟩
  | 2 => ⟨S16x384x196, .f32⟩
  | 3 => ⟨S_, .f32⟩
  | 4 => ⟨S16x384x196, .f32⟩
  | 5 => ⟨S16x384x196, .i1⟩
  | 6 => ⟨S16x384x196, .f32⟩
  | 7 => ⟨S_, .f32⟩
  | 8 => ⟨S16x384x196, .f32⟩
  | 9 => ⟨S16x384x196, .f32⟩
  | 10 => ⟨S16x384x196, .f32⟩
  | 11 => ⟨S1x16x384x196, .f32⟩
  | 12 => ⟨S16x384x196, .f32⟩
  | 13 => ⟨S16x384x196, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S16x384x196, .f32⟩
  | 21 => ⟨S16x384x196, .f32⟩
  | 22 => ⟨S16x384x196, .f32⟩
  | 23 => ⟨S_, .f32⟩
  | 24 => ⟨S16x384x196, .f32⟩
  | 25 => ⟨S16x384x196, .i1⟩
  | 26 => ⟨S16x384x196, .f32⟩
  | 27 => ⟨S_, .f32⟩
  | 28 => ⟨S16x384x196, .f32⟩
  | 29 => ⟨S16x384x196, .f32⟩
  | 30 => ⟨S16x384x196, .f32⟩
  | 31 => ⟨S1x16x384x196, .f32⟩
  | 32 => ⟨S1x16x384x196, .f32⟩
  | 33 => ⟨S1x16x384x196, .f32⟩
  | 34 => ⟨S1x16x384x196, .f32⟩
  | 35 => ⟨S4x16x384x196, .f32⟩
  | 36 => ⟨S_, .f32⟩
  | 37 => ⟨S16x384x196, .f32⟩
  | 38 => ⟨S1x16x384x196, .f32⟩
  | 39 => ⟨S16x384x196, .f32⟩
  | 40 => ⟨S16x384x196, .f32⟩
  | 41 => ⟨S_, .f32⟩
  | 42 => ⟨S16x384x196, .f32⟩
  | 43 => ⟨S16x384x196, .i1⟩
  | 44 => ⟨S16x384x196, .f32⟩
  | 45 => ⟨S_, .f32⟩
  | 46 => ⟨S16x384x196, .f32⟩
  | 47 => ⟨S16x384x196, .f32⟩
  | 48 => ⟨S16x384x196, .f32⟩
  | 49 => ⟨S1x16x384x196, .f32⟩
  | 50 => ⟨S16x384x196, .f32⟩
  | 51 => ⟨S16x384x196, .f32⟩
  | 52 => ⟨S_, .f32⟩
  | 53 => ⟨S16x384x196, .f32⟩
  | 54 => ⟨S16x384x196, .i1⟩
  | 55 => ⟨S16x384x196, .f32⟩
  | 56 => ⟨S_, .f32⟩
  | 57 => ⟨S16x384x196, .f32⟩
  | 58 => ⟨S16x384x196, .f32⟩
  | 59 => ⟨S16x384x196, .f32⟩
  | 60 => ⟨S1x16x384x196, .f32⟩
  | 61 => ⟨S16x384x196, .f32⟩
  | 62 => ⟨S16x384x196, .f32⟩
  | 63 => ⟨S_, .f32⟩
  | 64 => ⟨S16x384x196, .f32⟩
  | 65 => ⟨S16x384x196, .i1⟩
  | 66 => ⟨S16x384x196, .f32⟩
  | 67 => ⟨S_, .f32⟩
  | 68 => ⟨S16x384x196, .f32⟩
  | 69 => ⟨S16x384x196, .f32⟩
  | 70 => ⟨S16x384x196, .f32⟩
  | 71 => ⟨S1x16x384x196, .f32⟩
  | 72 => ⟨S16x384x196, .f32⟩
  | 73 => ⟨S16x384x196, .f32⟩
  | 74 => ⟨S_, .f32⟩
  | 75 => ⟨S16x384x196, .f32⟩
  | 76 => ⟨S16x384x196, .i1⟩
  | 77 => ⟨S16x384x196, .f32⟩
  | 78 => ⟨S_, .f32⟩
  | 79 => ⟨S16x384x196, .f32⟩
  | 80 => ⟨S16x384x196, .f32⟩
  | 81 => ⟨S16x384x196, .f32⟩
  | 82 => ⟨S1x16x384x196, .f32⟩
  | 83 => ⟨S1x16x384x196, .f32⟩
  | 84 => ⟨S1x16x384x196, .f32⟩
  | 85 => ⟨S1x16x384x196, .f32⟩
  | 86 => ⟨S4x16x384x196, .f32⟩
  | 87 => ⟨S4x16x1x384x196, .f32⟩
  | 88 => ⟨S4x16x1x384x196, .f32⟩
  | 89 => ⟨S4x16x1x384x196, .f32⟩
  | 90 => ⟨S4x16x1x384x196, .f32⟩
  | 91 => ⟨S4x16x4x384x196, .f32⟩
  | 92 => ⟨S_, .f32⟩
  | 93 => ⟨S4x16x4x384x196, .f32⟩
  | 94 => ⟨S4x16x4x384x196, .i1⟩
  | 95 => ⟨S_, .f32⟩
  | 96 => ⟨S_, .f32⟩
  | 97 => ⟨S4x16x4x384x196, .f32⟩
  | 98 => ⟨S4x16x4x384x196, .f32⟩
  | 99 => ⟨S4x16x4x1x196, .f32⟩
  | 100 => ⟨S4x16x4x384x196, .f32⟩
  | 101 => ⟨S4x16x4x384x196, .f32⟩
  | 102 => ⟨S_, .f32⟩
  | 103 => ⟨S4x16x384x196, .f32⟩
  | 104 => ⟨S_, .f32⟩
  | 105 => ⟨S4x16x384x196, .f32⟩
  | 106 => ⟨S4x16x384x196, .i1⟩
  | 107 => ⟨S4x16x384x196, .f32⟩
  | 108 => ⟨S64x384x196, .f32⟩
  | _ => ⟨S64x384x196, .f32⟩

abbrev hbmTy (i : Nat) : BufTy := match i / 128 with
  | 0 => hbmTy0_0 i
  | 1 => hbmTy0_1 i
  | 2 => hbmTy0_2 i
  | _ => ⟨S64x384x196, .f32⟩

abbrev bufTy : (tb : Table) → Fin (tcTables nBuf tb) → BufTy
  | .hbm, ⟨i, _⟩ => hbmTy i
  | _, _ => ⟨S64x384x196, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_16 : Ref sig .tc := ⟨.hbm, 98, rfl⟩
abbrev main_v77 : Ref sig .tc := ⟨.hbm, 99, rfl⟩
abbrev main_v78 : Ref sig .tc := ⟨.hbm, 100, rfl⟩
abbrev main_cst_17 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_19 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_20 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_21 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_22 : Ref sig .tc := ⟨.hbm, 124, rfl⟩
abbrev main_v97 : Ref sig .tc := ⟨.hbm, 125, rfl⟩
abbrev main_v98 : Ref sig .tc := ⟨.hbm, 126, rfl⟩
abbrev main_cst_23 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_24 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_25 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_26 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_27 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_28 : Ref sig .tc := ⟨.hbm, 150, rfl⟩
abbrev main_v117 : Ref sig .tc := ⟨.hbm, 151, rfl⟩
abbrev main_v118 : Ref sig .tc := ⟨.hbm, 152, rfl⟩
abbrev main_cst_29 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_30 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_31 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_32 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_33 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_34 : Ref sig .tc := ⟨.hbm, 176, rfl⟩
abbrev main_v137 : Ref sig .tc := ⟨.hbm, 177, rfl⟩
abbrev main_v138 : Ref sig .tc := ⟨.hbm, 178, rfl⟩
abbrev main_cst_35 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_36 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_37 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_38 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_39 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_40 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_cst_41 : Ref sig .tc := ⟨.hbm, 212, rfl⟩
abbrev main_v166 : Ref sig .tc := ⟨.hbm, 213, rfl⟩
abbrev main_cst_42 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_cst_43 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_44 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_45 : Ref sig .tc := ⟨.hbm, 232, rfl⟩
abbrev main_v182 : Ref sig .tc := ⟨.hbm, 233, rfl⟩
abbrev main_cst_46 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_cst_47 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_cst_48 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_cst_49 : Ref sig .tc := ⟨.hbm, 252, rfl⟩
abbrev main_v198 : Ref sig .tc := ⟨.hbm, 253, rfl⟩
abbrev main_cst_50 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_cst_51 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_cst_52 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_cst_53 : Ref sig .tc := ⟨.hbm, 272, rfl⟩
abbrev main_v214 : Ref sig .tc := ⟨.hbm, 273, rfl⟩
abbrev main_cst_54 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_cst_55 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_cst_56 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_cst_57 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_cst_58 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_cst_59 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_cst_60 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_cst_61 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_cst_62 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_cst_63 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_cst_64 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_cst_65 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_cst_66 : Ref sig .tc := ⟨.hbm, 348, rfl⟩
abbrev main_v277 : Ref sig .tc := ⟨.hbm, 349, rfl⟩
abbrev main_v278 : Ref sig .tc := ⟨.hbm, 350, rfl⟩
abbrev main_cst_67 : Ref sig .tc := ⟨.hbm, 351, rfl⟩
abbrev main_call0_v0 : Ref sig .tc := ⟨.hbm, 352, rfl⟩
abbrev main_call0_v1 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_cst_68 : Ref sig .tc := ⟨.hbm, 358, rfl⟩
abbrev main_v283 : Ref sig .tc := ⟨.hbm, 359, rfl⟩
abbrev main_cst_69 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩

abbrev nD : Nat := 1
abbrev τ : Topo := Topo.v7x

variable {F : FTy → Type} [FloatOps F]
-- ==== Proof.KernelIdeal.Body.lean ====
/- What one block of the kernel computes: the body's triple on whole staging memrefs, with the contents of its output
   block and of the two carried scratch buffers as plain terms of the blocks and of what the scratch held before. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Claim
public import Idealize.ShloMosaic.Lib.WordCmp
public import Idealize.ShloMosaic.Lib.VecWindow
public import Idealize.ShloMosaic.Lib.Pipeline.Value
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The LIF neuron's potential that the body leaves in the first scratch, from the input block and the potential it found. -/
def lifNext (i : grid0.Coords) (x v : Vec F S196x8x384 .f32) : Vec F S196x8x384 .f32 :=
  k0_pay1 (k0_pay13 i x v) (k0_pay14 i x v)

/-- The IF neuron's potential that the body leaves in the second scratch. -/
def ifNext (i : grid0.Coords) (x w : Vec F S196x8x384 .f32) : Vec F S196x8x384 .f32 :=
  k0_pay4 (k0_pay11 x) (k0_pay12 i w)

/-- The spikes the body stores in the output block, from the gate block, the input block and the two potentials it found. -/
def spikes (i : grid0.Coords) (g : Vec F S8x4x196 .f32) (x v w : Vec F S196x8x384 .f32) : Vec F S196x8x384 .f32 :=
  k0_pay5 (k0_pay7 g) (k0_pay8 g) (k0_pay9 g) (k0_pay10 g) (k0_pay11 x) (k0_pay12 i w) (k0_pay13 i x v)
    (k0_pay14 i x v) (k0_pay15 i x v)

set_option maxHeartbeats 1000000 in
/-- The body at any point and on any whole memrefs: the blocks it reads stay, the output block ends at `spikes` and the
    scratch buffers at `lifNext` and `ifNext` of what they held. -/
theorem body_run (c : Dev nD) (i : grid0.Coords) (arg2 : Memref sig .tc .vmem S8x4x196 .f32) (harg2 : arg2.IsWhole)
    (arg3 : Memref sig .tc .vmem S196x8x384 .f32) (harg3 : arg3.IsWhole) (arg4 : Memref sig .tc .vmem S196x8x384 .f32) (harg4 : arg4.IsWhole)
    (arg5 : Memref sig .tc .vmem S196x8x384 .f32) (harg5 : arg5.IsWhole) (arg6 : Memref sig .tc .vmem S196x8x384 .f32) (harg6 : arg6.IsWhole)
    (g : Vec F S8x4x196 .f32) (x v w : Vec F S196x8x384 .f32) (E : Set ℕ) (K : PUnit → sProp 𝕄) :
    iprop(owns (c : Thread nD τ) arg2 fullShare g ∗ owns (c : Thread nD τ) arg3 fullShare x ∗ (∃ d, owns (c : Thread nD τ) arg4 fullShare d)
        ∗ owns (c : Thread nD τ) arg5 fullShare v ∗ owns (c : Thread nD τ) arg6 fullShare w
        ∗ (iprop(owns (c : Thread nD τ) arg2 fullShare g ∗ owns (c : Thread nD τ) arg3 fullShare x
            ∗ owns (c : Thread nD τ) arg4 fullShare (spikes i g x v w) ∗ owns (c : Thread nD τ) arg5 fullShare (lifNext i x v)
            ∗ owns (c : Thread nD τ) arg6 fullShare (ifNext i x w)) -∗ K ⟨⟩))
      ⊢ wp frame (wpE (defs₀ (F := F)) Variants.none c none) E
          (cc0__moe_lif_kernel i arg2 harg2 arg3 harg3 arg4 harg4 arg5 harg5 arg6 harg6) K := by
  simp only [cc0__moe_lif_kernel_eq_skeleton]; unfold cc0__moe_lif_kernel_skel
  simp only [k0_part1_eq_skeleton]
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg2.eq_unread hf0; obtain rfl := harg3.eq_unread hf1
  obtain rfl := harg5.eq_unread hfs0; obtain rfl := harg6.eq_unread hfs1
  have eg : View.readAt (Elt F) arg2.view (Rect.unit (s := S8x4x196) ![0, 0, 0] S8x4x196.size inb_S8x4x196_S8x4x196_0_0_0).toLoadRect (harg2.unread g) = g :=
    (View.readAt_full arg2.view (harg2.unread g) _).trans hf0
  have ex : View.readAt (Elt F) arg3.view (Rect.unit (s := S196x8x384) ![0, 0, 0] S196x8x384.size inb_S196x8x384_S196x8x384_0_0_0).toLoadRect (harg3.unread x) = x :=
    (View.readAt_full arg3.view (harg3.unread x) _).trans hf1
  have ev : View.readAt (Elt F) arg5.view (Rect.unit (s := S196x8x384) ![0, 0, 0] S196x8x384.size inb_S196x8x384_S196x8x384_0_0_0).toLoadRect (harg5.unread v) = v :=
    (View.readAt_full arg5.view (harg5.unread v) _).trans hfs0
  have ew : View.readAt (Elt F) arg6.view (Rect.unit (s := S196x8x384) ![0, 0, 0] S196x8x384.size inb_S196x8x384_S196x8x384_0_0_0).toLoadRect (harg6.unread w) = w :=
    (View.readAt_full arg6.view (harg6.unread w) _).trans hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_full, spikes]
  isplitl [HS0]
  · iexists _; isplitr
    swap; · iexact HS0
    ipureintro
    rw [View.read_writes_full, lifNext]
  · iexists _; isplitr
    swap; · iexact HS1
    ipureintro
    rw [View.read_writes_full, ifNext]

end Cert.KernelIdeal.Hand

end
-- ==== Proof.KernelIdeal.Launch.lean ====
/- The kernel's launch: what the two scratch buffers hold between points, the pipeline's proof data, the body's obligation
   at a generic point, the run of the whole program and its frame. -/
module

public import proofs.«01_k».proof.Proof.KernelIdeal.Body
public import Idealize.ShloMosaic.Lib.Pipeline.FrameBody
public import Idealize.ShloMosaic.Lib.Pipeline.FrameSuffix

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first time step forgets what the scratch held -/

/-- The potential at rest: zero everywhere. -/
def resting : Vec F S196x8x384 .f32 := broadcast S196x8x384 (Scalar.ofBits .f32 0x00000000#32 : F .f32)

/-- At time step zero the word the body compares is zero. -/
theorem first_word (i : grid0.Coords) (h : (i 1).val = 0) :
    Scalar.cmpi .eq (BitVec.ofNat 32 (i 1).val) 0#32 = 1#1 := by rw [h]; rfl

theorem pay12_first (i : grid0.Coords) (h : (i 1).val = 0) (w : Vec F S196x8x384 .f32) :
    k0_pay12 i w = k0_pay12 i resting := by
  unfold k0_pay12
  simp only [first_word i h]
  rfl

theorem pay13_first (i : grid0.Coords) (h : (i 1).val = 0) (x v : Vec F S196x8x384 .f32) :
    k0_pay13 i x v = k0_pay13 i x resting := by
  unfold k0_pay13
  simp only [first_word i h]
  rfl

theorem lifNext_first (i : grid0.Coords) (h : (i 1).val = 0) (x v : Vec F S196x8x384 .f32) :
    lifNext i x v = lifNext i x resting := by
  unfold lifNext k0_pay14; rw [pay13_first i h x v]

theorem ifNext_first (i : grid0.Coords) (h : (i 1).val = 0) (x w : Vec F S196x8x384 .f32) :
    ifNext i x w = ifNext i x resting := by
  unfold ifNext; rw [pay12_first i h w]

theorem spikes_first (i : grid0.Coords) (h : (i 1).val = 0) (g : Vec F S8x4x196 .f32) (x v w : Vec F S196x8x384 .f32) :
    spikes i g x v w = spikes i g x resting resting := by
  unfold spikes k0_pay14 k0_pay15; rw [pay12_first i h w, pay13_first i h x v]

/-- The second coordinate of a point is its position modulo four. -/
theorem coord1 (t : Fin cfg0.N) : (grid0.coords t 1).val = t.val % 4 := by
  have e : (grid0.coords t 1).val = t.val / 1 % 4 := Pipeline.Grid.coords_val t 1 (by decide) rfl
  rw [e, Nat.div_one]

/-- The first coordinate of a point is its position divided by four. -/
theorem coord0 (t : Fin cfg0.N) : (grid0.coords t 0).val = t.val / 4 := by
  have e : (grid0.coords t 0).val = t.val / 4 % 2 := Pipeline.Grid.coords_val t 0 (by decide) rfl
  have hN : t.val < 8 := lt_of_lt_of_eq t.isLt (show cfg0.N = 8 from N_0)
  rw [e, Nat.mod_eq_of_lt (by omega)]

/-! ## What the scratch holds between points -/

/-- The LIF potential before position `n`, at rest before the first. -/
def lifAt (c : Dev nD) : (n : ℕ) → n ≤ cfg0.N → Vec F S196x8x384 .f32
  | 0, _ => resting
  | n + 1, h => lifNext (grid0.coords ⟨n, h⟩) (iblk m c 1 ⟨n, h⟩) (lifAt c n (Nat.le_of_succ_le h))

/-- The IF potential before position `n`, at rest before the first. -/
def ifAt (c : Dev nD) : (n : ℕ) → n ≤ cfg0.N → Vec F S196x8x384 .f32
  | 0, _ => resting
  | n + 1, h => ifNext (grid0.coords ⟨n, h⟩) (iblk m c 1 ⟨n, h⟩) (ifAt c n (Nat.le_of_succ_le h))

/-- The spikes of the block at point `t`. -/
def outAt (c : Dev nD) (t : Fin cfg0.N) : Vec F S196x8x384 .f32 :=
  spikes (grid0.coords t) (iblk m c 0 t) (iblk m c 1 t) (lifAt m c t.val (Nat.le_of_lt t.isLt)) (ifAt m c t.val (Nat.le_of_lt t.isLt))

theorem lifAt_succ (c : Dev nD) (t : Fin cfg0.N) : lifAt m c (t.val + 1) t.isLt
    = lifNext (grid0.coords t) (iblk m c 1 t) (lifAt m c t.val (Nat.le_of_lt t.isLt)) := rfl

theorem ifAt_succ (c : Dev nD) (t : Fin cfg0.N) : ifAt m c (t.val + 1) t.isLt
    = ifNext (grid0.coords t) (iblk m c 1 t) (ifAt m c t.val (Nat.le_of_lt t.isLt)) := rfl

/-- The scratch operands as memrefs. -/
abbrev scM0 : Memref sig .tc .vmem S196x8x384 .f32 := Memref.whole cc0_scratch0
abbrev scM1 : Memref sig .tc .vmem S196x8x384 .f32 := Memref.whole cc0_scratch1

/-- The launch's invariant, with the scratch operands owned at some contents. -/
theorem PhiA_eq (c : Dev nD) : (Pipeline.ΦA spec0 c : sProp 𝕄)
    = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before position `n`: anything in the scratch before the first point, afterwards the two potentials. -/
def PhiS (c : Dev nD) : (n : ℕ) → n ≤ cfg0.N → sProp 𝕄
  | 0, _ => Pipeline.ΦA spec0 c
  | n + 1, h => iprop(iprop(owns (c : Thread nD τ) scM0 fullShare (lifAt m c (n + 1) h) ∗ owns (c : Thread nD τ) scM1 fullShare (ifAt m c (n + 1) h)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h
    = iprop(iprop(owns (c : Thread nD τ) scM0 fullShare (lifAt m c n h) ∗ owns (c : Thread nD τ) scM1 fullShare (ifAt m c n h)) ∗ (∃ r, prngReg c r)) := by
  cases n with
  | zero => exact absurd rfl hz
  | succ n => rfl

/-! ## The proof data -/

/-- The pipeline's proof data: the arrays as the region finds them; the inputs' buffers at their blocks and the output's at
    `outAt` after each point; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body's obligation -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1600000 in
/-- The body at any point: at the first the scratch holds anything, which time step zero forgets; later it holds the
    potentials of the point before. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl, after0, after1, after2]
  rw [show (dats m 0 c).Φ t.succ = PhiS m c (t.val + 1) t.isLt from rfl, PhiS_pos m c (t.val + 1) t.isLt (Nat.succ_ne_zero _),
    lifAt_succ, ifAt_succ]
  unfold outAt
  by_cases hz : t.val = 0
  · have h1 : (grid0.coords t 1).val = 0 := by rw [coord1, hz]
    rw [PhiS_castSucc m c t, PhiS_zero m c _ _ hz, PhiA_eq]
    rw [lifNext_first _ h1, ifNext_first _ h1, spikes_first _ h1]
    iintro ⟨⟨⟨⟨%v, HS0⟩, ⟨%w, HS1⟩⟩, Hg⟩, Ho, ⟨%d0, H0⟩, ⟨%d1, H1⟩, ⟨%d2, H2⟩⟩
    iapply (body_run c (grid0.coords t) _ _ _ _ _ _ _ _ _ _ (iblk m c 0 t) (iblk m c 1 t) v w Set.univ _)
    isplitl [H0]; · iexact H0
    isplitl [H1]; · iexact H1
    isplitl [H2]; · iexists _; iexact H2
    isplitl [HS0]; · iexact HS0
    isplitl [HS1]; · iexact HS1
    rw [lifNext_first _ h1 _ v, ifNext_first _ h1 _ w, spikes_first _ h1 _ _ v w]
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iexact H2
  · rw [PhiS_castSucc m c t, PhiS_pos m c _ _ hz]
    iintro ⟨⟨⟨HS0, HS1⟩, Hg⟩, Ho, ⟨%d0, H0⟩, ⟨%d1, H1⟩, ⟨%d2, H2⟩⟩
    iapply (body_run c (grid0.coords t) _ _ _ _ _ _ _ _ _ _ (iblk m c 0 t) (iblk m c 1 t) _ _ Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

theorem phi_in (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem phi_out (c : Dev nD) : (dats m 0 c).Φ (Fin.last cfg0.N) ⊢ Pipeline.ΦA spec0 c := by
  have hN : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl,
    PhiS_pos m c _ _ hN, PhiA_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
set_option maxHeartbeats 800000 in
/-- Every execution of the program ends, with the arrays at what the proof data says and every semaphore counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.KernelIdeal.Hand

end
-- ==== Proof.Neurons.lean ====
/- The neurons of the mixture as functions of one extended real per time step: how a potential is charged, reset and
   emitted, and the identities by which the kernel's selects and the reference's products are the same step. -/
module

public import Idealize.ShloMosaic.Lib.ValueIdxCore
public import Idealize.ShloMosaic.Lib.KernelVsHost
public import Mathlib.Analysis.SpecialFunctions.Exp

@[expose] public section

open Idealize Idealize.ShloMosaic

namespace Cert.Neurons

/-- The threshold the potentials and the mixture are compared with: the single-precision number nearest one fifth. -/
noncomputable def vth : EReal := Ideal.ofBits .f32 0x3E4CCCCD#32

/-- The potential after the reset: zero where the neuron fires, the charged potential elsewhere. -/
noncomputable def fire (v : EReal) : EReal := if vth ≤ v then 0 else v

/-- What an expert passes on of its potential after the reset: the threshold where that potential is zero. -/
noncomputable def emit (v : EReal) : EReal := if v = 0 then vth else v

/-- The leaky charge: the potential moves half of the way to the input. -/
noncomputable def leak (v x : EReal) : EReal := v + Ideal.div (x - v) (Ideal.ofBits .f32 0x40000000#32)

/-- The leaky neuron's potential after `t` inputs. -/
noncomputable def lif (x : ℕ → EReal) : ℕ → EReal
  | 0 => 0
  | t + 1 => fire (leak (lif x t) (x t))

/-- The accumulating neuron's potential after `t` inputs. -/
noncomputable def acc (x : ℕ → EReal) : ℕ → EReal
  | 0 => 0
  | t + 1 => fire (acc x t + x t)

/-- The spike of a mixture: one where the mixture reaches the threshold, zero elsewhere. -/
noncomputable def spike (o : EReal) : EReal := (((Ideal.cmp .oge o vth).toNat : ℝ) : EReal)

/-- The mixture the kernel forms of the four gates, with the leaky expert's share `l` and the accumulating one's `f`. -/
noncomputable def mix (g : Fin 4 → EReal) (l f : EReal) : EReal := g 0 * l + g 1 * vth + g 2 * l + g 3 * f

theorem one_bits : Ideal.ofBits .f32 0x3F800000#32 = 1 := by
  simp [Ideal.ofBits, Ideal.ieee, -EReal.coe_mul]
  norm_num

theorem two_bits : Ideal.ofBits .f32 0x40000000#32 = ((2 : ℝ) : EReal) := by
  simp [Ideal.ofBits, Ideal.ieee, -EReal.coe_mul]
  norm_num

theorem vth_eq : vth = ((13421773 / 67108864 : ℝ) : EReal) := by
  unfold vth
  simp [Ideal.ofBits, Ideal.ieee, -EReal.coe_mul]
  norm_num

theorem theta_bits : Ideal.ofBits .f32 0x3F4CCCCD#32 = ((13421773 / 16777216 : ℝ) : EReal) := by
  simp [Ideal.ofBits, Ideal.ieee, -EReal.coe_mul]
  norm_num

/-- The kernel's reset selects zero where the comparison holds. -/
theorem fire_select (v : EReal) : Scalar.select (Ideal.cmp .oge v vth) (Ideal.ofBits .f32 0x00000000#32) v = fire v := by
  rw [Ideal.ofBits_zero_f32]
  unfold fire Ideal.cmp
  by_cases h : vth ≤ v <;> simp [h, Scalar.select]

/-- The reference's reset multiplies by one less the spike; an infinite potential times zero is zero too. -/
theorem fire_mul (v : EReal) :
    v * (Ideal.ofBits .f32 0x3F800000#32 - (((Ideal.cmp .oge v vth).toNat : ℝ) : EReal)) = fire v := by
  rw [one_bits]
  unfold fire Ideal.cmp
  by_cases h : vth ≤ v
  · have e : (1 : EReal) - ((((1#1 : BitVec 1).toNat : ℕ) : ℝ) : EReal) = 0 := by
      rw [show ((((1#1 : BitVec 1).toNat : ℕ) : ℝ)) = 1 by simp, ← EReal.coe_one, ← EReal.coe_sub]; simp
    simp only [h, decide_true, if_true, BitVec.ofBool_true]
    exact (congrArg (v * ·) e).trans (mul_zero v)
  · simp only [h, decide_false, if_false]
    norm_num [BitVec.ofBool]

/-- The kernel chooses the threshold where the neuron fires or its potential is zero; the reference, where the potential
    after the reset is zero. -/
theorem emit_select (v : EReal) :
    Scalar.select (IntOp.ori (Ideal.cmp .oge v vth) (Ideal.cmp .oeq v (Ideal.ofBits .f32 0x00000000#32))) vth v = emit (fire v) := by
  rw [Ideal.ofBits_zero_f32]
  unfold emit fire Ideal.cmp
  by_cases h : vth ≤ v <;> by_cases h0 : v = 0 <;>
    by_cases hz : vth ≤ 0 <;> simp_all [-not_le, Scalar.select, IntOp.ori]

theorem emit_where (v : EReal) : Scalar.select (Ideal.cmp .oeq v (Ideal.ofBits .f32 0x00000000#32)) vth v = emit v := by
  rw [Ideal.ofBits_zero_f32]
  unfold emit Ideal.cmp
  by_cases h0 : v = 0 <;> simp [h0, Scalar.select]

/-- Dividing by two is multiplying by the real one half. -/
theorem div_two (y : EReal) : Ideal.div y (Ideal.ofBits .f32 0x40000000#32) = y * ((1 / 2 : ℝ) : EReal) := by
  have h : ((2 : ℝ) : EReal) ≠ 0 := EReal.coe_ne_zero.2 two_ne_zero
  rw [two_bits, Ideal.div, if_neg h, ← EReal.coe_inv, one_div]

/-- Dividing by one changes nothing. -/
theorem div_one (y : EReal) : Ideal.div y (Ideal.ofBits .f32 0x3F800000#32) = y := by
  rw [one_bits, Ideal.div, if_neg one_ne_zero, ← EReal.coe_one, ← EReal.coe_inv, inv_one, EReal.coe_one, mul_one]

/-- The exponential term at rest is at least twice the threshold. -/
theorem exponential_at_rest : 2 * (13421773 / 67108864 : ℝ) ≤ Real.exp (-(13421773 / 16777216)) := by
  have h1 : (1 : ℝ) - 13421773 / 67108864 ≤ Real.exp (-(13421773 / 67108864)) := by
    have := Real.add_one_le_exp (-(13421773 / 67108864 : ℝ)); linarith
  have h4 : Real.exp (-(13421773 / 16777216)) = Real.exp (-(13421773 / 67108864)) ^ 4 := by
    rw [← Real.exp_nat_mul]; norm_num
  rw [h4]
  refine le_trans ?_ (pow_le_pow_left₀ (by norm_num) h1 4)
  norm_num

/-- The exponential neuron's charge from rest reaches the threshold at every input that is not negative. -/
theorem exponential_fires (x : EReal) (hx : 0 ≤ x) :
    vth ≤ 0 + Ideal.div (x + Ideal.ofBits .f32 0x3F800000#32 *
      Ideal.exp (Ideal.div (0 - Ideal.ofBits .f32 0x3F4CCCCD#32) (Ideal.ofBits .f32 0x3F800000#32)) - 0)
        (Ideal.ofBits .f32 0x40000000#32) := by
  rw [div_one, div_two, one_bits, one_mul, zero_add, sub_zero, theta_bits, zero_sub, ← EReal.coe_neg, vth_eq]
  show _ ≤ (x + ((Real.exp (-(13421773 / 16777216)) : ℝ) : EReal)) * _
  calc ((13421773 / 67108864 : ℝ) : EReal)
      ≤ ((Real.exp (-(13421773 / 16777216)) : ℝ) : EReal) * ((1 / 2 : ℝ) : EReal) := by
        rw [← EReal.coe_mul]
        refine EReal.coe_le_coe_iff.2 ?_
        have := exponential_at_rest; linarith
    _ ≤ _ := by
        refine mul_le_mul_of_nonneg_right ?_ (by norm_num)
        exact le_add_of_nonneg_left hx

/-- The logistic function of zero is one half, so the parametric neuron's charge is the leaky one's. -/
theorem parametric_charge (v x : EReal) :
    v + (x - v) * Ideal.div (Ideal.ofBits .f32 0x3F800000#32)
      (Ideal.ofBits .f32 0x3F800000#32 + Ideal.exp (-(0 : EReal))) = leak v x := by
  have e : Ideal.ofBits .f32 0x3F800000#32 + Ideal.exp (-(0 : EReal)) = Ideal.ofBits .f32 0x40000000#32 := by
    rw [one_bits, two_bits, neg_zero, show Ideal.exp (0 : EReal) = ((Real.exp 0 : ℝ) : EReal) from rfl, Real.exp_zero,
      ← EReal.coe_one, ← EReal.coe_add]
    norm_num
  rw [e, leak, div_two, div_two, one_bits, one_mul]

/-- The reference's sum over the four experts, in the order of the gates, is the kernel's mixture. -/
theorem sum_eq_mix (g e : Fin 4 → EReal) (l f : EReal) (h0 : e 0 = l) (h1 : e 1 = vth) (h2 : e 2 = l) (h3 : e 3 = f) :
    0 + ∑ k : Fin 4, g k * e k = mix g l f := by
  rw [Fin.sum_univ_four, zero_add, h0, h1, h2, h3, mix]

end Cert.Neurons
-- ==== Proof.Spikes.lean ====
/- The result both programs compute, as one function of the input and the gates. -/
module

public import proofs.«01_k».proof.Proof.Neurons
public import Idealize.ShloMosaic.Lib.Pointwise

@[expose] public section

noncomputable section

open Idealize Idealize.ShloMosaic

namespace Cert.Neurons

/-- The input, by row, channel and pixel. -/
abbrev Input := (⟨3, ![64, 384, 196]⟩ : Shape).Idx → EReal

/-- The gates, by image, expert and pixel. -/
abbrev Gates := (⟨3, ![16, 4, 196]⟩ : Shape).Idx → EReal

/-- The input's time steps at one image, channel and pixel: step `s` of image `b` is row `s * 16 + b`. -/
def steps (x : Input) (b : ℕ) (ch : Fin 384) (n : Fin 196) : ℕ → EReal :=
  fun s => x (ix3 ⟨(s * 16 + b) % 64, Nat.mod_lt _ (by decide)⟩ ch n)

/-- The spike of an input and its gates at an image, a time step, a channel and a pixel. -/
def spikeAt (x : Input) (g : Gates) (b : Fin 16) (k : ℕ) (ch : Fin 384) (n : Fin 196) : EReal :=
  spike (mix (fun e => g (ix3 b e n)) (emit (lif (steps x b.val ch n) (k + 1))) (emit (acc (steps x b.val ch n) (k + 1))))

/-- The spikes by row: row `r` is time step `r / 16` of image `r % 16`. -/
def spikeRow (x : Input) (g : Gates) (r : Fin 64) : Fin 384 → Fin 196 → EReal :=
  spikeAt x g ⟨r.val % 16, Nat.mod_lt _ (by decide)⟩ (r.val / 16)

end Cert.Neurons

end
-- ==== Proof.KernelIdeal.Payload.lean ====
/- What one block computes, read at an index over the extended reals: a charge and a reset of each potential, and the spike
   of the mixture. -/
module

public import proofs.«01_k».proof.Proof.KernelIdeal.Launch
public import proofs.«01_k».proof.Proof.Spikes
public import Idealize.ShloMosaic.Lib.Pipeline.ValueKit

@[expose] public section

noncomputable section

namespace Cert.KernelIdeal.Hand

open Cert.KernelIdeal.Gen Cert.Neurons
open Idealize Idealize.ShloMosaic

/-- The potential a point starts from: zero at time step zero, what the scratch holds later. -/
def start (i : grid0.Coords) (v : EReal) : EReal := Scalar.select (Scalar.cmpi .eq (BitVec.ofNat 32 (i 1).val) 0#32) (Ideal.ofBits .f32 0x00000000#32) v

theorem start_first (i : grid0.Coords) (h : (i 1).val = 0) (v : EReal) : start i v = 0 := by
  unfold start; rw [first_word i h]; exact Ideal.ofBits_zero_f32

theorem start_later (i : grid0.Coords) (h : (i 1).val ≠ 0) (v : EReal) : start i v = v := by
  have hw : Scalar.cmpi .eq (BitVec.ofNat 32 (i 1).val) 0#32 = 0#1 := by
    have hd : ∀ k : Fin 4, k.val ≠ 0 → Scalar.cmpi .eq (BitVec.ofNat 32 k.val) 0#32 = 0#1 := by decide
    exact hd (i 1) h
  unfold start; rw [hw]; rfl

theorem select_at (b : BitVec 1) (p q : FVec Ideal S196x8x384 .f32) (y : S196x8x384.Idx) :
    Scalar.select b p q y = Scalar.select b (p y) (q y) := by
  unfold Scalar.select; split <;> rfl

/-- The charged leaky potential. -/
theorem pay13_at (i : grid0.Coords) (x v : Vec Ideal S196x8x384 .f32) (y : S196x8x384.Idx) :
    k0_pay13 i x v y = leak (start i (v y)) (x y) := by
  unfold k0_pay13 k0_pay11
  rw [shapeCast_self]
  simp only [addf, subf, divf, select_at]
  rfl

/-- The accumulating potential before the charge. -/
theorem pay12_at (i : grid0.Coords) (w : Vec Ideal S196x8x384 .f32) (y : S196x8x384.Idx) :
    k0_pay12 i w y = start i (w y) := by
  unfold k0_pay12
  simp only [select_at]
  rfl

theorem lifNext_at (i : grid0.Coords) (x v : Vec Ideal S196x8x384 .f32) (y : S196x8x384.Idx) :
    lifNext i x v y = fire (leak (start i (v y)) (x y)) := by
  rw [← fire_select, ← pay13_at]
  unfold lifNext k0_pay1 k0_pay14
  rw [shapeCast_self]
  rfl

theorem ifNext_at (i : grid0.Coords) (x w : Vec Ideal S196x8x384 .f32) (y : S196x8x384.Idx) :
    ifNext i x w y = fire (start i (w y) + x y) := by
  rw [← fire_select, ← pay12_at]
  unfold ifNext k0_pay4 k0_pay3 k0_pay2 k0_pay11
  rw [shapeCast_self, shapeCast_self]
  rfl

/-- The spike of the block at an index: that of the mixture of the two potentials after the step. -/
theorem spikes_at (i : grid0.Coords) (g : Vec Ideal S8x4x196 .f32) (x v w : Vec Ideal S196x8x384 .f32) (y : S196x8x384.Idx) :
    spikes i g x v w y = spike (mix (fun e => g (ix3 (y 1) e (y 0)))
      (emit (lifNext i x v y)) (emit (ifNext i x w y))) := by
  have hl : emit (lifNext i x v y) = Scalar.select (IntOp.ori (k0_pay14 i x v y) (k0_pay15 i x v y)) vth (k0_pay13 i x v y) := by
    rw [lifNext_at, ← emit_select, ← pay13_at]; rfl
  have hf : emit (ifNext i x w y) = Scalar.select (IntOp.ori (k0_pay3 x (k0_pay12 i w) y)
      (Ideal.cmp .oeq (k0_pay2 x (k0_pay12 i w) y) (Ideal.ofBits .f32 0x00000000#32))) vth (k0_pay2 x (k0_pay12 i w) y) := by
    rw [ifNext_at, ← emit_select, ← pay12_at]; rfl
  rw [hl, hf]
  have h11 : k0_pay11 x = x := by unfold k0_pay11; exact shapeCast_self _ _
  have h6 : k0_pay6 g = g := by unfold k0_pay6; exact shapeCast_self _ _
  unfold spikes k0_pay5 k0_pay7 k0_pay8 k0_pay9 k0_pay10
  rw [h11, h6]
  generalize k0_pay13 i x v = a
  generalize k0_pay14 i x v = b
  generalize k0_pay15 i x v = d
  generalize k0_pay3 x (k0_pay12 i w) = p
  generalize k0_pay2 x (k0_pay12 i w) = q
  dsimp only
  rw [sitofp_extui_eq_uitofp]
  pointwise [spike, mix, vth]
  rfl

end Cert.KernelIdeal.Hand

end
-- ==== Proof.KernelIdeal.Value.lean ====
/- What the kernel's result holds: at every time step the spike of the mixture of the potentials that the input's steps up to
   this one have built. -/
module

public import proofs.«01_k».proof.Proof.KernelIdeal.Payload
public import Idealize.ShloMosaic.Lib.Claim

@[expose] public section

set_option maxRecDepth 16384

noncomputable section

namespace Cert.KernelIdeal.Hand

open Cert.KernelIdeal.Gen Cert.Neurons
open Idealize Idealize.ShloMosaic Idealize.ShloMosaic.TcCoe
open Idealize.ShloMosaic.Pipeline (Dat Cfg Window)

variable (m : (ℓ : Loc nD τ sig) → Buf (Elt Ideal) ℓ)

/-- The input as launched. -/
abbrev input (c : Dev nD) : Input := m ((c.tc : Thread nD τ).loc main_arg0)

theorem idx_in0 : ∀ t : Fin cfg0.N, win0_0.index t = ![t.val / 4, 0, 0] :=
  (by decide +kernel : ∀ t : Fin grid0.N, win0_0.index t = ![t.val / 4, 0, 0])

theorem idx_in1 : ∀ t : Fin cfg0.N, win0_1.index t = ![0, t.val % 4 * 2 + t.val / 4, 0] :=
  (by decide +kernel : ∀ t : Fin grid0.N, win0_1.index t = ![0, t.val % 4 * 2 + t.val / 4, 0])

theorem idx_out : ∀ t : Fin cfg0.N, win0_2.index t = ![0, t.val % 4 * 2 + t.val / 4, 0] :=
  (by decide +kernel : ∀ t : Fin grid0.N, win0_2.index t = ![0, t.val % 4 * 2 + t.val / 4, 0])

/-- The input the region finds is the argument turned so that the pixel comes first. -/
theorem turned_at (c : Dev nD) (i : S196x64x384.Idx) :
    V m c main_v17 i = input m c (ix3 (i 1) (i 2) (i 0)) := by
  have h : V m c main_v17 = transpose S196x64x384 [2, 0, 1] (input m c) transposes_S64x384x196_S196x64x384_2_0_1 := by
    show StableHlo.after [hostOps0].flatten _ _ = _
    simp only [List.flatten_cons, List.flatten_nil, List.append_nil]
    after_results
  rw [h]
  pointwise

/-- The input's block at a point: lane `j` of the point's images, at the point's time step. -/
theorem block_at (c : Dev nD) (t : Fin cfg0.N) (y : S196x8x384.Idx) :
    iblk m c 1 t y = steps (input m c) (t.val / 4 * 8 + (y 1).val) (y 2) (y 0) (t.val % 4) := by
  have hN : t.val < 8 := lt_of_lt_of_eq t.isLt (show cfg0.N = 8 from N_0)
  have h1 : (y 1).val < 8 := (y 1).isLt
  have h : iblk m c 1 t y = V m c main_v17 (((cfg0.win 1).blk t).view.emb y) := rfl
  rw [h, turned_at]
  unfold steps
  refine congrArg _ ?_
  blk_ext! [idx_in1 t]

/-- The gates' block at a point: the eight images of the point's half of the batch. -/
theorem gates_at (c : Dev nD) (t : Fin cfg0.N) (y : S8x4x196.Idx) (b : Fin 16) (hb : b.val = t.val / 4 * 8 + (y 0).val) :
    iblk m c 0 t y = V m c main_v16 (ix3 b (y 1) (y 2)) := by
  have h : iblk m c 0 t y = V m c main_v16 (((cfg0.win 0).blk t).view.emb y) := rfl
  rw [h]
  refine congrArg _ ?_
  blk_ext! [idx_in0 t]

/-- What the scratch holds after a point: the leaky potential of the time steps up to the point's. -/
theorem lifAt_at (c : Dev nD) (y : S196x8x384.Idx) : ∀ (n : ℕ) (h : n < cfg0.N),
    lifAt m c (n + 1) h y = lif (steps (input m c) (n / 4 * 8 + (y 1).val) (y 2) (y 0)) (n % 4 + 1)
  | n, h => by
    have hs : lifAt m c (n + 1) h = lifNext (grid0.coords ⟨n, h⟩) (iblk m c 1 ⟨n, h⟩) (lifAt m c n (Nat.le_of_lt h)) := rfl
    rw [hs, lifNext_at, block_at, lif]
    by_cases hz : n % 4 = 0
    · rw [start_first _ (by rw [coord1]; exact hz), hz]; rfl
    · rw [start_later _ (by rw [coord1]; exact hz)]
      obtain ⟨k, rfl⟩ : ∃ k, n = k + 1 := ⟨n - 1, by omega⟩
      rw [lifAt_at c y k (Nat.lt_of_succ_lt h), show k / 4 = (k + 1) / 4 by omega, show k % 4 + 1 = (k + 1) % 4 by omega]

/-- The same for the accumulating potential. -/
theorem ifAt_at (c : Dev nD) (y : S196x8x384.Idx) : ∀ (n : ℕ) (h : n < cfg0.N),
    ifAt m c (n + 1) h y = acc (steps (input m c) (n / 4 * 8 + (y 1).val) (y 2) (y 0)) (n % 4 + 1)
  | n, h => by
    have hs : ifAt m c (n + 1) h = ifNext (grid0.coords ⟨n, h⟩) (iblk m c 1 ⟨n, h⟩) (ifAt m c n (Nat.le_of_lt h)) := rfl
    rw [hs, ifNext_at, block_at, acc]
    by_cases hz : n % 4 = 0
    · rw [start_first _ (by rw [coord1]; exact hz), hz]; rfl
    · rw [start_later _ (by rw [coord1]; exact hz)]
      obtain ⟨k, rfl⟩ : ∃ k, n = k + 1 := ⟨n - 1, by omega⟩
      rw [ifAt_at c y k (Nat.lt_of_succ_lt h), show k / 4 = (k + 1) / 4 by omega, show k % 4 + 1 = (k + 1) % 4 by omega]

theorem outAt_at (c : Dev nD) (t : Fin cfg0.N) (y : S196x8x384.Idx) (b : Fin 16) (hb : b.val = t.val / 4 * 8 + (y 1).val) :
    outAt m c t y = spikeAt (input m c) (V m c main_v16) b (t.val % 4) (y 2) (y 0) := by
  have hl := lifAt_at m c y t.val t.isLt
  have hf := ifAt_at m c y t.val t.isLt
  rw [lifAt_succ, ← hb] at hl
  rw [ifAt_succ, ← hb] at hf
  rw [outAt, spikes_at, hl, hf]
  unfold spikeAt
  exact congrArg (fun g => spike (mix g _ _)) (funext fun e => gates_at m c t _ _ hb)

/-- The array the kernel writes, after the run. -/
theorem final (c : Dev nD) : (dats m 0 c).arrAt 2 cfg0.N
    = fun i : S196x64x384.Idx => spikeRow (input m c) (V m c main_v16) (i 1) (i 2) (i 0) := by
  refine (dats m 0 c).arrAt_eq_of_covers 2 _ (by decide +kernel) fun t hf y => ?_
  blk_simp
  rw [after2]
  have hN : t.val < 8 := lt_of_lt_of_eq t.isLt (show cfg0.N = 8 from N_0)
  have h1 : (y 1).val < 8 := (y 1).isLt
  have e0 : (((win0_2.blk t).view.emb y 0 : Fin _) : ℕ) = (y 0).val := by blk_simp [idx_out t]
  have e1 : (((win0_2.blk t).view.emb y 1 : Fin _) : ℕ) = (t.val % 4 * 2 + t.val / 4) * 8 + (y 1).val := by
    blk_simp [idx_out t]
  have e2 : (((win0_2.blk t).view.emb y 2 : Fin _) : ℕ) = (y 2).val := by blk_simp [idx_out t]
  rw [outAt_at m c t y ⟨t.val / 4 * 8 + (y 1).val, by omega⟩ rfl]
  unfold spikeRow
  refine congr (congr (congr (congrArg _ ?_) ?_) ?_) ?_
  · exact Fin.ext (by
      show t.val / 4 * 8 + (y 1).val = ((win0_2.blk t).view.emb y 1 : Fin _).val % 16
      rw [e1]; omega)
  · show t.val % 4 = ((win0_2.blk t).view.emb y 1 : Fin _).val / 16
    rw [e1]; omega
  · exact Fin.ext e2.symm
  · exact Fin.ext e0.symm

end Cert.KernelIdeal.Hand

end
-- ==== Proof.KernelIdeal.Result.lean ====
/- The kernel's result: the array the kernel writes, with its axes turned back to the input's order. -/
module

public import proofs.«01_k».proof.Proof.KernelIdeal.Value

@[expose] public section

noncomputable section

namespace Cert.KernelIdeal.Hand

open Cert.KernelIdeal Cert.KernelIdeal.Gen Cert.Neurons
open Idealize Idealize.ShloMosaic Idealize.SL.Sem

variable (m : (ℓ : Loc nD τ sig) → Buf (Elt Ideal) ℓ) (ρ : Dev nD → PrngReg)

/-- What the operations after the kernel leave in the result. -/
theorem tail_at (c : Dev nD) :
    Pipeline.afterTail₀ cfgs (dats m) 0 (V0 m) [hostOps1] c main_v19
      = fun i : S64x384x196.Idx => spikeRow (input m c) (V m c main_v16) (i 0) (i 1) (i 2) := by
  show StableHlo.after [hostOps1].flatten _ _ = _
  simp only [List.flatten_cons, List.flatten_nil, List.append_nil]
  after_results
  have hw : Pipeline.withArrays (cfgs 0).spec c (V0 m c) (fun w => (dats m 0 c).arrAt w (cfgs 0).N) (Proc.devRef .tc main_v18)
      = (dats m 0 c).arrAt 2 cfg0.N :=
    Pipeline.withArrays_arr spec0 (by decide) c (V0 m c) (fun w => (dats m 0 c).arrAt w cfg0.N) 2
  rw [hw, final]
  funext i
  pointwise

/-- Every execution ends with the result at the spikes and the arguments unchanged. -/
theorem run_value : θ_run defs (onTc (τ := τ) (main (F := Ideal))) ⟨m, fun _ => 0, ρ⟩ (fun r => ∀ c : Dev nD,
      r.2.mem ((c.tc : Thread nD τ).loc main_v19)
        = (fun i : S64x384x196.Idx => spikeRow (input m c) (V m c main_v16) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.2 c).2 main_v19 (Pipeline.mem_restRefs_of main_v19 (by decide) (by decide))).trans (tail_at m c), h.1.1 c⟩)
    (θ_run_and (frame m ρ) (run_main m ρ))

end Cert.KernelIdeal.Hand

end
-- ==== Proof.Reference.lean ====
/- What the reference computes: each neuron's potential after every time step at an index, the experts side by side, and the
   spike of their sum. -/
module

public import proofs.«01_k».proof.Proof.Spikes
public import proofs.«01_k».proof.Proof.Gen.ReferenceIdeal.Read

@[expose] public section

noncomputable section

namespace Cert.ReferenceIdeal.Hand

open Cert.ReferenceIdeal Cert.ReferenceIdeal.Gen Cert.ReferenceIdeal.Read Cert.Neurons
open Idealize Idealize.ShloMosaic

variable (x : FVec Ideal S64x384x196 .f32) (p : FVec Ideal S_ .f32) (i : S16x384x196.Idx)

/-- The input's time steps at an index of one step's array. -/
abbrev at_ : ℕ → EReal := steps x (i 0).val (i 1) (i 2)

/-- One time step cut from the input is that step of the index. -/
theorem slice_at (s : Fin 4) (off : Fin 4 → ℕ) (ho : off = ![s.val, 0, 0, 0]) (h : S4x16x384x196.Slices off S1x16x384x196) :
    shapeCast S16x384x196 (extractStridedSlice S1x16x384x196 off (val_main_v19 (F := Ideal) x) h) shapeCasts_S1x16x384x196_S16x384x196 i
      = at_ x i s.val := by
  subst ho
  have h0 : (i 0).val < 16 := (i 0).isLt
  have h1 : (i 1).val < 384 := (i 1).isLt
  have h2 : (i 2).val < 196 := (i 2).isLt
  have hs : s.val < 4 := s.isLt
  generalize hv : val_main_v19 (F := Ideal) x = v
  pointwise
  rw [← hv, val_main_v19_apply]
  unfold at_ steps
  refine congrArg x (funext fun a => Fin.ext ?_)
  fin_cases a
  · show (((s.val * 16 + (i 0).val) * 384 + (i 1).val) * 196 + (i 2).val) / 75264 = (s.val * 16 + (i 0).val) % 64
    omega
  · show (((s.val * 16 + (i 0).val) * 384 + (i 1).val) * 196 + (i 2).val) / 196 % 384 = (i 1).val
    omega
  · show (((s.val * 16 + (i 0).val) * 384 + (i 1).val) * 196 + (i 2).val) % 196 = (i 2).val
    omega

/-! ## The leaky neuron -/

/-- The leaky potential after the first step. -/
theorem lif_1 : val_main_v32 (F := Ideal) x i = lif (at_ x i) 1 := by
  have h : val_main_v32 (F := Ideal) x i = fire (leak (Ideal.ofBits .f32 0x00000000#32) (val_main_v22 (F := Ideal) x i)) := fire_mul _
  rw [h, Ideal.ofBits_zero_f32, show val_main_v22 (F := Ideal) x i = at_ x i 0 from slice_at x i 0 _ rfl _]
  rfl

/-- The leaky potential after the second step. -/
theorem lif_2 : val_main_v44 (F := Ideal) x i = lif (at_ x i) 2 := by
  have h : val_main_v44 (F := Ideal) x i = fire (leak (val_main_v32 (F := Ideal) x i) (val_main_v34 (F := Ideal) x i)) := fire_mul _
  rw [h, lif_1 x i, show val_main_v34 (F := Ideal) x i = at_ x i 1 from slice_at x i 1 _ rfl _]
  rfl

/-- The leaky potential after the third step. -/
theorem lif_3 : val_main_v56 (F := Ideal) x i = lif (at_ x i) 3 := by
  have h : val_main_v56 (F := Ideal) x i = fire (leak (val_main_v44 (F := Ideal) x i) (val_main_v46 (F := Ideal) x i)) := fire_mul _
  rw [h, lif_2 x i, show val_main_v46 (F := Ideal) x i = at_ x i 2 from slice_at x i 2 _ rfl _]
  rfl

/-- The leaky potential after the last step. -/
theorem lif_4 : val_main_v68 (F := Ideal) x i = lif (at_ x i) 4 := by
  have h : val_main_v68 (F := Ideal) x i = fire (leak (val_main_v56 (F := Ideal) x i) (val_main_v58 (F := Ideal) x i)) := fire_mul _
  rw [h, lif_3 x i, show val_main_v58 (F := Ideal) x i = at_ x i 3 from slice_at x i 3 _ rfl _]
  rfl

/-! ## The accumulating neuron -/

/-- The accumulating potential after the first step. -/
theorem acc_1 : val_main_v239 (F := Ideal) x i = acc (at_ x i) 1 := by
  have h : val_main_v239 (F := Ideal) x i = fire (Ideal.ofBits .f32 0x00000000#32 + (val_main_v232 (F := Ideal) x i)) := fire_mul _
  rw [h, Ideal.ofBits_zero_f32, show val_main_v232 (F := Ideal) x i = at_ x i 0 from slice_at x i 0 _ rfl _]
  rfl

/-- The accumulating potential after the second step. -/
theorem acc_2 : val_main_v248 (F := Ideal) x i = acc (at_ x i) 2 := by
  have h : val_main_v248 (F := Ideal) x i = fire (val_main_v239 (F := Ideal) x i + (val_main_v241 (F := Ideal) x i)) := fire_mul _
  rw [h, acc_1 x i, show val_main_v241 (F := Ideal) x i = at_ x i 1 from slice_at x i 1 _ rfl _]
  rfl

/-- The accumulating potential after the third step. -/
theorem acc_3 : val_main_v257 (F := Ideal) x i = acc (at_ x i) 3 := by
  have h : val_main_v257 (F := Ideal) x i = fire (val_main_v248 (F := Ideal) x i + (val_main_v250 (F := Ideal) x i)) := fire_mul _
  rw [h, acc_2 x i, show val_main_v250 (F := Ideal) x i = at_ x i 2 from slice_at x i 2 _ rfl _]
  rfl

/-- The accumulating potential after the last step. -/
theorem acc_4 : val_main_v266 (F := Ideal) x i = acc (at_ x i) 4 := by
  have h : val_main_v266 (F := Ideal) x i = fire (val_main_v257 (F := Ideal) x i + (val_main_v259 (F := Ideal) x i)) := fire_mul _
  rw [h, acc_3 x i, show val_main_v259 (F := Ideal) x i = at_ x i 3 from slice_at x i 3 _ rfl _]
  rfl

/-! ## The parametric neuron, its parameter zero -/

/-- The parametric charge: the potential moves towards the input by the logistic function of the parameter. -/
def towards (w v u : EReal) : EReal := v + (u - v) * w

/-- The logistic function of the parameter, as the reference writes it. -/
def half (w : EReal) : EReal :=
  Ideal.div (Ideal.ofBits .f32 0x3F800000#32) (Ideal.ofBits .f32 0x3F800000#32 + Ideal.exp (-w))

/-- The parametric potential after the first step. -/
theorem plif_1 (hp : ∀ j, p j = 0) : val_main_v176 (F := Ideal) x p i = lif (at_ x i) 1 := by
  have h : val_main_v176 (F := Ideal) x p i = fire (towards (val_main_v168 (F := Ideal) p i) (Ideal.ofBits .f32 0x00000000#32) (val_main_v162 (F := Ideal) x i)) := fire_mul _
  have e : val_main_v168 (F := Ideal) p i = half (p (idx_main_v168 i)) := by
    rw [val_main_v168_apply, val_main_v167_apply, val_main_v166_apply, val_main_v165_apply, val_main_v164_apply]
    rfl
  rw [h, e, Ideal.ofBits_zero_f32, show val_main_v162 (F := Ideal) x i = at_ x i 0 from slice_at x i 0 _ rfl _, hp, half, towards, parametric_charge]
  rfl

/-- The parametric potential after the second step. -/
theorem plif_2 (hp : ∀ j, p j = 0) : val_main_v192 (F := Ideal) x p i = lif (at_ x i) 2 := by
  have h : val_main_v192 (F := Ideal) x p i = fire (towards (val_main_v184 (F := Ideal) p i) (val_main_v176 (F := Ideal) x p i) (val_main_v178 (F := Ideal) x i)) := fire_mul _
  have e : val_main_v184 (F := Ideal) p i = half (p (idx_main_v184 i)) := by
    rw [val_main_v184_apply, val_main_v183_apply, val_main_v182_apply, val_main_v181_apply, val_main_v180_apply]
    rfl
  rw [h, e, plif_1 x p i hp, show val_main_v178 (F := Ideal) x i = at_ x i 1 from slice_at x i 1 _ rfl _, hp, half, towards, parametric_charge]
  rfl

/-- The parametric potential after the third step. -/
theorem plif_3 (hp : ∀ j, p j = 0) : val_main_v208 (F := Ideal) x p i = lif (at_ x i) 3 := by
  have h : val_main_v208 (F := Ideal) x p i = fire (towards (val_main_v200 (F := Ideal) p i) (val_main_v192 (F := Ideal) x p i) (val_main_v194 (F := Ideal) x i)) := fire_mul _
  have e : val_main_v200 (F := Ideal) p i = half (p (idx_main_v200 i)) := by
    rw [val_main_v200_apply, val_main_v199_apply, val_main_v198_apply, val_main_v197_apply, val_main_v196_apply]
    rfl
  rw [h, e, plif_2 x p i hp, show val_main_v194 (F := Ideal) x i = at_ x i 2 from slice_at x i 2 _ rfl _, hp, half, towards, parametric_charge]
  rfl

/-- The parametric potential after the last step. -/
theorem plif_4 (hp : ∀ j, p j = 0) : val_main_v224 (F := Ideal) x p i = lif (at_ x i) 4 := by
  have h : val_main_v224 (F := Ideal) x p i = fire (towards (val_main_v216 (F := Ideal) p i) (val_main_v208 (F := Ideal) x p i) (val_main_v210 (F := Ideal) x i)) := fire_mul _
  have e : val_main_v216 (F := Ideal) p i = half (p (idx_main_v216 i)) := by
    rw [val_main_v216_apply, val_main_v215_apply, val_main_v214_apply, val_main_v213_apply, val_main_v212_apply]
    rfl
  rw [h, e, plif_3 x p i hp, show val_main_v210 (F := Ideal) x i = at_ x i 3 from slice_at x i 3 _ rfl _, hp, half, towards, parametric_charge]
  rfl

/-! ## The exponential neuron, its input nowhere negative -/

/-- The exponential charge. -/
def surge (v u : EReal) : EReal :=
  v + Ideal.div (u + Ideal.ofBits .f32 0x3F800000#32 *
    Ideal.exp (Ideal.div (v - Ideal.ofBits .f32 0x3F4CCCCD#32) (Ideal.ofBits .f32 0x3F800000#32)) - v)
      (Ideal.ofBits .f32 0x40000000#32)

/-- From rest the exponential neuron fires, so it is at rest again. -/
theorem fire_surge (u : EReal) (hu : 0 ≤ u) : fire (surge 0 u) = 0 := by
  rw [fire, surge, if_pos (exponential_fires u hu)]

/-- The exponential potential after the first step. -/
theorem eif_1 (hx : ∀ j, 0 ≤ x j) : val_main_v94 (F := Ideal) x i = 0 := by
  have h : val_main_v94 (F := Ideal) x i = fire (surge (Ideal.ofBits .f32 0x00000000#32) (val_main_v76 (F := Ideal) x i)) := fire_mul _
  rw [h, Ideal.ofBits_zero_f32, show val_main_v76 (F := Ideal) x i = at_ x i 0 from slice_at x i 0 _ rfl _]
  exact fire_surge _ (hx _)

/-- The exponential potential after the second step. -/
theorem eif_2 (hx : ∀ j, 0 ≤ x j) : val_main_v114 (F := Ideal) x i = 0 := by
  have h : val_main_v114 (F := Ideal) x i = fire (surge (val_main_v94 (F := Ideal) x i) (val_main_v96 (F := Ideal) x i)) := fire_mul _
  rw [h, eif_1 x i hx, show val_main_v96 (F := Ideal) x i = at_ x i 1 from slice_at x i 1 _ rfl _]
  exact fire_surge _ (hx _)

/-- The exponential potential after the third step. -/
theorem eif_3 (hx : ∀ j, 0 ≤ x j) : val_main_v134 (F := Ideal) x i = 0 := by
  have h : val_main_v134 (F := Ideal) x i = fire (surge (val_main_v114 (F := Ideal) x i) (val_main_v116 (F := Ideal) x i)) := fire_mul _
  rw [h, eif_2 x i hx, show val_main_v116 (F := Ideal) x i = at_ x i 2 from slice_at x i 2 _ rfl _]
  exact fire_surge _ (hx _)

/-- The exponential potential after the last step. -/
theorem eif_4 (hx : ∀ j, 0 ≤ x j) : val_main_v154 (F := Ideal) x i = 0 := by
  have h : val_main_v154 (F := Ideal) x i = fire (surge (val_main_v134 (F := Ideal) x i) (val_main_v136 (F := Ideal) x i)) := fire_mul _
  rw [h, eif_3 x i hx, show val_main_v136 (F := Ideal) x i = at_ x i 3 from slice_at x i 3 _ rfl _]
  exact fire_surge _ (hx _)

end Cert.ReferenceIdeal.Hand

end
-- ==== Proof.ReferenceValue.lean ====
/- The reference's result at an index: the four experts' potentials stacked, zero replaced by the threshold, weighted by the
   gates, summed and compared. -/
module

public import proofs.«01_k».proof.Proof.Reference

@[expose] public section

noncomputable section

namespace Cert.ReferenceIdeal.Hand

open Cert.ReferenceIdeal Cert.ReferenceIdeal.Gen Cert.ReferenceIdeal.Read Cert.Neurons
open Idealize Idealize.ShloMosaic

variable (x : FVec Ideal S64x384x196 .f32) (p : FVec Ideal S_ .f32)

/-- Four arrays of one time step each, stacked: the one at the step. -/
theorem stack_at (a0 a1 a2 a3 : FVec Ideal S16x384x196 .f32)
    (k : Fin 4) (b : Fin 16) (ch : Fin 384) (n : Fin 196) :
    concatenate S4x16x384x196 0 [⟨S1x16x384x196, broadcastInDim S1x16x384x196 ![1, 2, 3] bcast_S16x384x196_S1x16x384x196_1_2_3 a0⟩,
      ⟨S1x16x384x196, broadcastInDim S1x16x384x196 ![1, 2, 3] bcast_S16x384x196_S1x16x384x196_1_2_3 a1⟩,
      ⟨S1x16x384x196, broadcastInDim S1x16x384x196 ![1, 2, 3] bcast_S16x384x196_S1x16x384x196_1_2_3 a2⟩,
      ⟨S1x16x384x196, broadcastInDim S1x16x384x196 ![1, 2, 3] bcast_S16x384x196_S1x16x384x196_1_2_3 a3⟩]
      concatenates_S1x16x384x196_S1x16x384x196_S1x16x384x196_S1x16x384x196_S4x16x384x196_d0 (ix4 k b ch n)
      = (![a0, a1, a2, a3] k) (ix3 b ch n) := by
  fin_cases k <;> pointwise

/-- Four stacks, one per expert, put side by side: the one of the expert. -/
theorem experts_at (a0 a1 a2 a3 : FVec Ideal S4x16x384x196 .f32)
    (k : Fin 4) (b : Fin 16) (e : Fin 4) (ch : Fin 384) (n : Fin 196) :
    concatenate S4x16x4x384x196 2 [⟨S4x16x1x384x196, broadcastInDim S4x16x1x384x196 ![0, 1, 3, 4] bcast_S4x16x384x196_S4x16x1x384x196_0_1_3_4 a0⟩,
      ⟨S4x16x1x384x196, broadcastInDim S4x16x1x384x196 ![0, 1, 3, 4] bcast_S4x16x384x196_S4x16x1x384x196_0_1_3_4 a1⟩,
      ⟨S4x16x1x384x196, broadcastInDim S4x16x1x384x196 ![0, 1, 3, 4] bcast_S4x16x384x196_S4x16x1x384x196_0_1_3_4 a2⟩,
      ⟨S4x16x1x384x196, broadcastInDim S4x16x1x384x196 ![0, 1, 3, 4] bcast_S4x16x384x196_S4x16x1x384x196_0_1_3_4 a3⟩]
      concatenates_S4x16x1x384x196_S4x16x1x384x196_S4x16x1x384x196_S4x16x1x384x196_S4x16x4x384x196_d2 (ix5 k b e ch n)
      = (![a0, a1, a2, a3] e) (ix4 k b ch n) := by
  fin_cases e <;> pointwise

variable (k : Fin 4) (b : Fin 16) (ch : Fin 384) (n : Fin 196)

/-- The leaky neuron's stacked potentials. -/
theorem stacked_lif :
    val_main_v73 (F := Ideal) x (ix4 k b ch n) = lif (steps x b.val ch n) (k.val + 1) := by
  unfold val_main_v73 val_main_v69 val_main_v70 val_main_v71 val_main_v72
  rw [stack_at]
  fin_cases k
  exacts [lif_1 x _, lif_2 x _, lif_3 x _, lif_4 x _]

/-- The exponential neuron's stacked potentials, on inputs that are never negative. -/
theorem stacked_eif (hx : ∀ j, 0 ≤ x j) :
    val_main_v159 (F := Ideal) x (ix4 k b ch n) = 0 := by
  unfold val_main_v159 val_main_v155 val_main_v156 val_main_v157 val_main_v158
  rw [stack_at]
  fin_cases k
  exacts [eif_1 x _ hx, eif_2 x _ hx, eif_3 x _ hx, eif_4 x _ hx]

/-- The parametric neuron's stacked potentials, where its parameter is zero. -/
theorem stacked_plif (hp : ∀ j, p j = 0) :
    val_main_v229 (F := Ideal) x p (ix4 k b ch n) = lif (steps x b.val ch n) (k.val + 1) := by
  unfold val_main_v229 val_main_v225 val_main_v226 val_main_v227 val_main_v228
  rw [stack_at]
  fin_cases k
  exacts [plif_1 x p _ hp, plif_2 x p _ hp, plif_3 x p _ hp, plif_4 x p _ hp]

/-- The accumulating neuron's stacked potentials. -/
theorem stacked_acc :
    val_main_v271 (F := Ideal) x (ix4 k b ch n) = acc (steps x b.val ch n) (k.val + 1) := by
  unfold val_main_v271 val_main_v267 val_main_v268 val_main_v269 val_main_v270
  rw [stack_at]
  fin_cases k
  exacts [acc_1 x _, acc_2 x _, acc_3 x _, acc_4 x _]

/-- The potentials of the four experts, side by side. -/
theorem potentials (hx : ∀ j, 0 ≤ x j) (hp : ∀ j, p j = 0) (e : Fin 4) :
    val_main_v276 (F := Ideal) x p (ix5 k b e ch n)
      = ![lif (steps x b.val ch n) (k.val + 1), 0, lif (steps x b.val ch n) (k.val + 1),
          acc (steps x b.val ch n) (k.val + 1)] e := by
  unfold val_main_v276 val_main_v272 val_main_v273 val_main_v274 val_main_v275
  rw [experts_at]
  fin_cases e
  exacts [stacked_lif x k b ch n, stacked_eif x k b ch n hx, stacked_plif x p k b ch n hp, stacked_acc x k b ch n]

/-- What each expert emits: its potential, with zero replaced by the threshold. -/
theorem emitted (hx : ∀ j, 0 ≤ x j) (hp : ∀ j, p j = 0) (e : Fin 4) :
    val_main_v279 (F := Ideal) x p (ix5 k b e ch n)
      = emit (![lif (steps x b.val ch n) (k.val + 1), 0, lif (steps x b.val ch n) (k.val + 1),
          acc (steps x b.val ch n) (k.val + 1)] e) := by
  rw [← potentials x p k b ch n hx hp e]
  exact emit_where _

variable (W : FVec Ideal S4x1536 .f32) (c : FVec Ideal S4 .f32)

/-- The gate an expert's emission is weighted by, the same at every step and channel. -/
theorem gate_at (e : Fin 4) :
    val_main_v281 (F := Ideal) x W c (ix5 k b e ch n) = val_main_v16 (F := Ideal) x W c (ix3 b e n) := by
  unfold val_main_v281 val_main_v280 val_main_v18 val_main_v17
  generalize val_main_v16 (F := Ideal) x W c = g
  pointwise

/-- The weighted sum of the four emissions. -/
theorem mixed (hx : ∀ j, 0 ≤ x j) (hp : ∀ j, p j = 0) :
    val_main_v283 (F := Ideal) x W c p (ix4 k b ch n)
      = mix (fun e => val_main_v16 (F := Ideal) x W c (ix3 b e n))
          (emit (lif (steps x b.val ch n) (k.val + 1))) (emit (acc (steps x b.val ch n) (k.val + 1))) := by
  rw [val_main_v283_apply]
  have h (e : Fin 4) : val_main_v282 (F := Ideal) x W c p (idx_main_v283 (ix4 k b ch n) e)
      = val_main_v16 (F := Ideal) x W c (ix3 b e n)
        * emit (![lif (steps x b.val ch n) (k.val + 1), 0, lif (steps x b.val ch n) (k.val + 1),
          acc (steps x b.val ch n) (k.val + 1)] e) := by
    have hi : idx_main_v283 (ix4 k b ch n) e = ix5 k b e ch n := by
      funext a; match a with
      | ⟨0, _⟩ | ⟨1, _⟩ | ⟨2, _⟩ | ⟨3, _⟩ | ⟨4, _⟩ => rfl
    rw [hi, val_main_v282_apply, gate_at, emitted x p k b ch n hx hp e]
    rfl
  rw [Finset.sum_congr rfl fun e _ => h e]
  have hz : val_main_cst_68 (F := Ideal) (Shape.Idx.first h_S_) = 0 := Ideal.ofBits_zero_f32
  rw [hz]
  exact sum_eq_mix _ _ _ _ rfl (by simp [emit]) rfl rfl

/-- The reference's result: at row r, batch r mod 16 at step r / 16. -/
theorem result_at (hx : ∀ j, 0 ≤ x j) (hp : ∀ j, p j = 0) (i : S64x384x196.Idx) :
    val_main_v287 (F := Ideal) x W c p i
      = spikeRow x (val_main_v16 (F := Ideal) x W c) (i 0) (i 1) (i 2) := by
  have h0 : (i 0).val < 64 := (i 0).isLt
  have h1 : (i 1).val < 384 := (i 1).isLt
  have h2 : (i 2).val < 196 := (i 2).isLt
  have hi : idx_main_v287 i = ix4 ⟨(i 0).val / 16, by omega⟩ ⟨(i 0).val % 16, by omega⟩ (i 1) (i 2) := by
    funext a; apply Fin.ext
    match a with
    | ⟨0, _⟩ => show (((i 0).val * 384 + (i 1).val) * 196 + (i 2).val) / 1204224 = (i 0).val / 16; omega
    | ⟨1, _⟩ => show (((i 0).val * 384 + (i 1).val) * 196 + (i 2).val) / 75264 % 16 = (i 0).val % 16; omega
    | ⟨2, _⟩ => show (((i 0).val * 384 + (i 1).val) * 196 + (i 2).val) / 196 % 384 = (i 1).val; omega
    | ⟨3, _⟩ => show (((i 0).val * 384 + (i 1).val) * 196 + (i 2).val) % 196 = (i 2).val; omega
  have hm : val_main_v283 (F := Ideal) x W c p (idx_main_v287 i) = _ :=
    (congrArg (val_main_v283 (F := Ideal) x W c p) hi).trans (mixed x p _ _ _ _ W c hx hp)
  rw [val_main_v287_apply, val_main_v286_apply, val_main_v285_apply, hm, val_main_v284_apply]
  rfl

end Cert.ReferenceIdeal.Hand

end
-- ==== Proof.ReferenceRun.lean ====
/- The reference's run: its result, the arguments it leaves unchanged, and its frame. -/
module

public import proofs.«01_k».proof.Proof.ReferenceValue
public import proofs.«01_k».proof.Proof.Gen.ReferenceIdeal.Run
public import Idealize.ShloMosaic.Lib.Claim
public import Idealize.ShloMosaic.Lib.Quiescent

@[expose] public section

noncomputable section

namespace Cert.ReferenceIdeal.Hand

open Cert.ReferenceIdeal Cert.ReferenceIdeal.Gen Cert.ReferenceIdeal.Read Cert.Neurons
open Idealize Idealize.ShloMosaic Idealize.SL.Sem

variable (m : (ℓ : Loc nD τ sig) → Buf (Elt Ideal) ℓ) (ρ : Dev nD → PrngReg)

/-- The frame: the arguments end unchanged; the reference has no semaphore. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2, sem_eq_zero_of_no_sems rfl _⟩) (Cert.ReferenceIdeal.Value.run m ρ)

/-- The run, where the input is never negative and the parameter is zero. -/
theorem run_value (hx : ∀ (c : Dev nD) (j : S64x384x196.Idx), (0 : EReal) ≤ m ((c.tc : Thread nD τ).loc main_arg0) j)
    (hp : ∀ (c : Dev nD) (j : S_.Idx), m ((c.tc : Thread nD τ).loc main_arg3) j = (0 : EReal)) :
    θ_run defs (onTc (τ := τ) (main (F := Ideal))) ⟨m, fun _ => 0, ρ⟩ (fun r => ∀ c : Dev nD,
      r.2.mem ((c.tc : Thread nD τ).loc main_v287)
        = (fun i : S64x384x196.Idx => spikeRow (m ((c.tc : Thread nD τ).loc main_arg0))
            (val_main_v16 (F := Ideal) (m ((c.tc : Thread nD τ).loc main_arg0)) (m ((c.tc : Thread nD τ).loc main_arg1))
              (m ((c.tc : Thread nD τ).loc main_arg2))) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1.trans (val_main_v287_eq (StableHlo.launchContents m c))).trans
    (funext fun i => result_at _ _ _ _ (hx c) (hp c) i), (h c).2⟩) (Cert.ReferenceIdeal.Value.run m ρ)

end Cert.ReferenceIdeal.Hand

end
-- ==== Proof.Gate.lean ====
/- The gate the kernel is launched on is the reference's gate: both programs compute it by the same operations. -/
module

public import proofs.«01_k».proof.Proof.KernelIdeal.Value
public import proofs.«01_k».proof.Proof.Gen.ReferenceIdeal.Read

@[expose] public section

noncomputable section

namespace Cert.KernelIdeal.Hand

open Cert.KernelIdeal Cert.KernelIdeal.Gen
open Idealize Idealize.ShloMosaic

variable (m : (ℓ : Loc nD τ sig) → Buf (Elt Ideal) ℓ)

theorem gate_eq (c : Dev nD) :
    V m c main_v16 = Cert.ReferenceIdeal.Read.val_main_v16 (F := Ideal) (m ((c.tc : Thread nD τ).loc main_arg0))
      (m ((c.tc : Thread nD τ).loc main_arg1)) (m ((c.tc : Thread nD τ).loc main_arg2)) := by
  show StableHlo.after [hostOps0].flatten _ _ = _
  simp only [List.flatten_cons, List.flatten_nil, List.append_nil]
  after_results
  rfl

end Cert.KernelIdeal.Hand

end
-- ==== Proof.Drawn.lean ====
/- What the precondition says of the arrays: no entry of the input is negative, and the parameter is zero. -/
module

public import proofs.«01_k».proof.Pre_drawn
public import proofs.«01_k».proof.Proof.Neurons
public import Idealize.ShloMosaic.Lib.Claim
public import Idealize.ShloMosaic.Lib.ReduceAll

@[expose] public section

noncomputable section

namespace Cert.Neurons

open Cert.Pre_drawn Idealize Idealize.ShloMosaic

/-- The precondition, entry by entry. -/
theorem drawn_facts [hpre : Facts] (x : FVec Ideal S64x384x196 .f32) (W : FVec Ideal S4x1536 .f32) (b : FVec Ideal S4 .f32)
    (p : FVec Ideal S_ .f32) (h : Cert.Pre_drawn.fn (F := Ideal) x W b p = fun _ => 1#1) :
    (∀ j, 0 ≤ x j) ∧ ∀ j, p j = 0 := by
  have h0 := congrFun h (Shape.Idx.first Facts.h_S_)
  unfold Cert.Pre_drawn.fn at h0
  obtain ⟨ha, hb⟩ := IntOp.andi_eq_one.mp h0
  have : Subsingleton S_.Idx := ⟨fun _ _ => funext fun a => a.elim0⟩
  constructor
  · intro j
    have hj := Host.reduce_andi_all _ _ _ _ _ ha j
    have : Ideal.cmp .oge (x j) (Ideal.ofBits .f32 0x00000000#32) = 1#1 := hj
    rw [Ideal.ofBits_zero_f32] at this
    by_contra hn
    simp [Ideal.cmp, hn] at this
  · intro j
    have hj : j = Shape.Idx.first Facts.h_S_ := funext fun a => a.elim0
    have : Ideal.cmp .oeq (p (Shape.Idx.first Facts.h_S_)) (Ideal.ofBits .f32 0x00000000#32) = 1#1 := hb
    rw [Ideal.ofBits_zero_f32] at this
    rw [hj]
    by_contra hn
    simp [Ideal.cmp, hn] at this

end Cert.Neurons

end
-- ==== Proof.lean ====
/- The claim: the five frames, the idealization that rewrote nothing, and the equation between the kernel's result and the
   reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Gen.ReferenceIdeal.Run
public import proofs.«01_k».proof.Proof.Gen.ReferenceIdeal.Read
public import proofs.«01_k».proof.Proof.Kernel.Launch
public import proofs.«01_k».proof.Proof.KernelIdeal.Result
public import proofs.«01_k».proof.Proof.ReferenceRun
public import proofs.«01_k».proof.Proof.Gate
public import proofs.«01_k».proof.Proof.Drawn
public import Idealize.ShloMosaic.Adequacy
public import Idealize.ShloMosaic.Init

@[expose] public section

noncomputable section

namespace Cert.Proof

open Idealize Idealize.ShloMosaic Idealize.SL.Sem

/-- From memories that agree on the arguments, and meet the precondition, both programs end with the same spikes. -/
theorem equation : Cert.algebraic_KernelIdeal_ReferenceIdeal_pre_drawn (hKernelIdeal := Cert.KernelIdeal.Gen.facts)
    (hReferenceIdeal := Cert.ReferenceIdeal.Gen.facts) (hPre_drawn := Cert.Pre_drawn.Gen.facts) := by
  intro m g m' g' hpre hargs
  have hf (c : Dev Cert.KernelIdeal.nD) := Cert.Neurons.drawn_facts (hpre := Cert.Pre_drawn.Gen.facts) _ _ _ _ (hpre c)
  have hx (c : Dev Cert.ReferenceIdeal.nD) (j : Cert.ReferenceIdeal.S64x384x196.Idx) :
      (0 : EReal) ≤ m' ((c.tc : Thread Cert.ReferenceIdeal.nD Cert.ReferenceIdeal.τ).loc Cert.ReferenceIdeal.main_arg0) j := by
    rw [(hargs c).1]; exact (hf c).1 j
  have hp (c : Dev Cert.ReferenceIdeal.nD) (j : Cert.ReferenceIdeal.S_.Idx) :
      m' ((c.tc : Thread Cert.ReferenceIdeal.nD Cert.ReferenceIdeal.τ).loc Cert.ReferenceIdeal.main_arg3) j = (0 : EReal) := by
    rw [(hargs c).2.2.2]; exact (hf c).2 j
  refine ⟨_, Cert.KernelIdeal.Hand.run_value m g, ?_⟩
  refine (θ_run _ _ _).mono (fun _ h c => ⟨(h c).1.trans ?_, (h c).2⟩) (Cert.ReferenceIdeal.Hand.run_value m' g' hx hp)
  rw [(hargs c).1, (hargs c).2.1, (hargs c).2.2.1, ← Cert.KernelIdeal.Hand.gate_eq m c]

theorem claim : Cert.Claim := ⟨Cert.Kernel.Gen.facts, Cert.KernelIdeal.Gen.facts, Cert.ReferenceIdeal.Gen.facts, Cert.Pre_drawn.Gen.facts,
  fun m g _ => Cert.Kernel.Hand.frame m g, fun m g _ => Cert.KernelIdeal.Hand.frame m g,
  fun m g _ => Cert.KernelIdeal.Hand.frame m g, fun m g _ => Cert.ReferenceIdeal.Hand.frame m g,
  fun m g _ => Cert.ReferenceIdeal.Hand.frame m g, trivial, equation⟩

end Cert.Proof

end
